-- ==== Defs.lean ====
def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_finite_inputs [hPre_finite_inputs : Cert.Pre_finite_inputs.Facts] (m : (ℓ : Loc Cert.RotateIdeal.nD Cert.RotateIdeal.τ Cert.RotateIdeal.sig) → Buf (Elt Ideal) ℓ) : Prop :=
  ∀ c : Dev Cert.RotateIdeal.nD,
    (Cert.Pre_finite_inputs.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1))).1 = (fun _ => 1#1)
    ∧ (Cert.Pre_finite_inputs.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1))).2 = (fun _ => 1#1)

def Pre_RotateRefIdeal (m : (ℓ : Loc Cert.RotateRefIdeal.nD Cert.RotateRefIdeal.τ Cert.RotateRefIdeal.sig) → Buf (Elt Ideal) ℓ) : Prop :=
  True

def Pre_RotateRefIdeal_finite_inputs [hPre_finite_inputs : Cert.Pre_finite_inputs.Facts] (m : (ℓ : Loc Cert.RotateRefIdeal.nD Cert.RotateRefIdeal.τ Cert.RotateRefIdeal.sig) → Buf (Elt Ideal) ℓ) : Prop :=
  ∀ c : Dev Cert.RotateRefIdeal.nD,
    (Cert.Pre_finite_inputs.fn (F := Ideal) (m ((c.tc : Thread Cert.RotateRefIdeal.nD Cert.RotateRefIdeal.τ).loc Cert.RotateRefIdeal.main_arg0)) (m ((c.tc : Thread Cert.RotateRefIdeal.nD Cert.RotateRefIdeal.τ).loc Cert.RotateRefIdeal.main_arg1))).1 = (fun _ => 1#1)
    ∧ (Cert.Pre_finite_inputs.fn (F := Ideal) (m ((c.tc : Thread Cert.RotateRefIdeal.nD Cert.RotateRefIdeal.τ).loc Cert.RotateRefIdeal.main_arg0)) (m ((c.tc : Thread Cert.RotateRefIdeal.nD Cert.RotateRefIdeal.τ).loc Cert.RotateRefIdeal.main_arg1))).2 = (fun _ => 1#1)

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearIdeal_finite_activations [hPre_finite_activations : Cert.Pre_finite_activations.Facts] (m : (ℓ : Loc Cert.LinearIdeal.nD Cert.LinearIdeal.τ Cert.LinearIdeal.sig) → Buf (Elt Ideal) ℓ) : Prop :=
  ∀ c : Dev Cert.LinearIdeal.nD,
    (Cert.Pre_finite_activations.fn (F := Ideal) (m ((c.tc : Thread Cert.LinearIdeal.nD Cert.LinearIdeal.τ).loc Cert.LinearIdeal.main_arg0)) (m ((c.tc : Thread Cert.LinearIdeal.nD Cert.LinearIdeal.τ).loc Cert.LinearIdeal.main_arg1)) (m ((c.tc : Thread Cert.LinearIdeal.nD Cert.LinearIdeal.τ).loc Cert.LinearIdeal.main_arg2)) (m ((c.tc : Thread Cert.LinearIdeal.nD Cert.LinearIdeal.τ).loc Cert.LinearIdeal.main_arg3))).1 = (fun _ => 1#1)
    ∧ (Cert.Pre_finite_activations.fn (F := Ideal) (m ((c.tc : Thread Cert.LinearIdeal.nD Cert.LinearIdeal.τ).loc Cert.LinearIdeal.main_arg0)) (m ((c.tc : Thread Cert.LinearIdeal.nD Cert.LinearIdeal.τ).loc Cert.LinearIdeal.main_arg1)) (m ((c.tc : Thread Cert.LinearIdeal.nD Cert.LinearIdeal.τ).loc Cert.LinearIdeal.main_arg2)) (m ((c.tc : Thread Cert.LinearIdeal.nD Cert.LinearIdeal.τ).loc Cert.LinearIdeal.main_arg3))).2 = (fun _ => 1#1)

def Pre_LinearRefIdeal (m : (ℓ : Loc Cert.LinearRefIdeal.nD Cert.LinearRefIdeal.τ Cert.LinearRefIdeal.sig) → Buf (Elt Ideal) ℓ) : Prop :=
  True

def Pre_LinearRefIdeal_finite_activations [hPre_finite_activations : Cert.Pre_finite_activations.Facts] (m : (ℓ : Loc Cert.LinearRefIdeal.nD Cert.LinearRefIdeal.τ Cert.LinearRefIdeal.sig) → Buf (Elt Ideal) ℓ) : Prop :=
  ∀ c : Dev Cert.LinearRefIdeal.nD,
    (Cert.Pre_finite_activations.fn (F := Ideal) (m ((c.tc : Thread Cert.LinearRefIdeal.nD Cert.LinearRefIdeal.τ).loc Cert.LinearRefIdeal.main_arg0)) (m ((c.tc : Thread Cert.LinearRefIdeal.nD Cert.LinearRefIdeal.τ).loc Cert.LinearRefIdeal.main_arg1)) (m ((c.tc : Thread Cert.LinearRefIdeal.nD Cert.LinearRefIdeal.τ).loc Cert.LinearRefIdeal.main_arg2)) (m ((c.tc : Thread Cert.LinearRefIdeal.nD Cert.LinearRefIdeal.τ).loc Cert.LinearRefIdeal.main_arg3))).1 = (fun _ => 1#1)
    ∧ (Cert.Pre_finite_activations.fn (F := Ideal) (m ((c.tc : Thread Cert.LinearRefIdeal.nD Cert.LinearRefIdeal.τ).loc Cert.LinearRefIdeal.main_arg0)) (m ((c.tc : Thread Cert.LinearRefIdeal.nD Cert.LinearRefIdeal.τ).loc Cert.LinearRefIdeal.main_arg1)) (m ((c.tc : Thread Cert.LinearRefIdeal.nD Cert.LinearRefIdeal.τ).loc Cert.LinearRefIdeal.main_arg2)) (m ((c.tc : Thread Cert.LinearRefIdeal.nD Cert.LinearRefIdeal.τ).loc Cert.LinearRefIdeal.main_arg3))).2 = (fun _ => 1#1)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateIdeal_pre_finite_inputs [hRotateIdeal : Cert.RotateIdeal.Facts] [hPre_finite_inputs : Cert.Pre_finite_inputs.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_finite_inputs m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1))
      ∧ r.2.sem = fun _ => 0)

def quiescent_RotateRefIdeal_pre_finite_inputs [hRotateRefIdeal : Cert.RotateRefIdeal.Facts] [hPre_finite_inputs : Cert.Pre_finite_inputs.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal_finite_inputs m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3))
      ∧ r.2.sem = fun _ => 0)

def quiescent_LinearIdeal_pre_finite_activations [hLinearIdeal : Cert.LinearIdeal.Facts] [hPre_finite_activations : Cert.Pre_finite_activations.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal_finite_activations m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3))
      ∧ r.2.sem = fun _ => 0)

def quiescent_LinearRefIdeal [hLinearRefIdeal : Cert.LinearRefIdeal.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1)
      ∧ r.2.mem ((c.tc : Thread Cert.LinearRefIdeal.nD Cert.LinearRefIdeal.τ).loc Cert.LinearRefIdeal.main_arg2) = m ((c.tc : Thread Cert.LinearRefIdeal.nD Cert.LinearRefIdeal.τ).loc Cert.LinearRefIdeal.main_arg2)
      ∧ r.2.mem ((c.tc : Thread Cert.LinearRefIdeal.nD Cert.LinearRefIdeal.τ).loc Cert.LinearRefIdeal.main_arg3) = m ((c.tc : Thread Cert.LinearRefIdeal.nD Cert.LinearRefIdeal.τ).loc Cert.LinearRefIdeal.main_arg3))
      ∧ r.2.sem = fun _ => 0)

def quiescent_LinearRefIdeal_pre_finite_activations [hLinearRefIdeal : Cert.LinearRefIdeal.Facts] [hPre_finite_activations : Cert.Pre_finite_activations.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal_finite_activations m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1)
      ∧ r.2.mem ((c.tc : Thread Cert.LinearRefIdeal.nD Cert.LinearRefIdeal.τ).loc Cert.LinearRefIdeal.main_arg2) = m ((c.tc : Thread Cert.LinearRefIdeal.nD Cert.LinearRefIdeal.τ).loc Cert.LinearRefIdeal.main_arg2)
      ∧ r.2.mem ((c.tc : Thread Cert.LinearRefIdeal.nD Cert.LinearRefIdeal.τ).loc Cert.LinearRefIdeal.main_arg3) = m ((c.tc : Thread Cert.LinearRefIdeal.nD Cert.LinearRefIdeal.τ).loc Cert.LinearRefIdeal.main_arg3))
      ∧ r.2.sem = fun _ => 0)

def preserves_Rotate_RotateIdeal : Prop :=
  True

def algebraic_RotateIdeal_RotateRefIdeal_pre_finite_inputs [hRotateIdeal : Cert.RotateIdeal.Facts] [hRotateRefIdeal : Cert.RotateRefIdeal.Facts] [hPre_finite_inputs : Cert.Pre_finite_inputs.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal_finite_inputs m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)
      ∧ m' ((c.tc : Thread Cert.RotateRefIdeal.nD Cert.RotateRefIdeal.τ).loc Cert.RotateRefIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v2)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v2) = v0 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v24) = v0 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0)
          ∧ r.2.mem ((c.tc : Thread Cert.RotateRefIdeal.nD Cert.RotateRefIdeal.τ).loc Cert.RotateRefIdeal.main_arg1) = m' ((c.tc : Thread Cert.RotateRefIdeal.nD Cert.RotateRefIdeal.τ).loc Cert.RotateRefIdeal.main_arg1))

def preserves_Linear_LinearIdeal : Prop :=
  IdealRules.bf16_pair.PackStatement Cert.LinearIdeal.S8x128
  ∧ IdealRules.bf16_pair.Statement Cert.LinearIdeal.S16x128 Cert.LinearIdeal.S8x128

def algebraic_LinearIdeal_LinearRefIdeal_pre_finite_activations [hLinearIdeal : Cert.LinearIdeal.Facts] [hLinearRefIdeal : Cert.LinearRefIdeal.Facts] [hPre_finite_activations : Cert.Pre_finite_activations.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearRefIdeal.nD Cert.LinearRefIdeal.τ Cert.LinearRefIdeal.sig) → Buf (Elt Ideal) ℓ) (g' : Dev Cert.LinearRefIdeal.nD → PrngReg), Pre_LinearIdeal_finite_activations m →
    (∀ c : Dev Cert.LinearIdeal.nD,
      m' ((c.tc : Thread Cert.LinearRefIdeal.nD Cert.LinearRefIdeal.τ).loc Cert.LinearRefIdeal.main_arg0) = m ((c.tc : Thread Cert.LinearIdeal.nD Cert.LinearIdeal.τ).loc Cert.LinearIdeal.main_arg0)
      ∧ m' ((c.tc : Thread Cert.LinearRefIdeal.nD Cert.LinearRefIdeal.τ).loc Cert.LinearRefIdeal.main_arg1) = m ((c.tc : Thread Cert.LinearIdeal.nD Cert.LinearIdeal.τ).loc Cert.LinearIdeal.main_arg1)
      ∧ m' ((c.tc : Thread Cert.LinearRefIdeal.nD Cert.LinearRefIdeal.τ).loc Cert.LinearRefIdeal.main_arg2) = m ((c.tc : Thread Cert.LinearIdeal.nD Cert.LinearIdeal.τ).loc Cert.LinearIdeal.main_arg2)
      ∧ m' ((c.tc : Thread Cert.LinearRefIdeal.nD Cert.LinearRefIdeal.τ).loc Cert.LinearRefIdeal.main_arg3) = m ((c.tc : Thread Cert.LinearIdeal.nD Cert.LinearIdeal.τ).loc Cert.LinearIdeal.main_arg3)) →
    ∃ (v0 : (c : Dev Cert.LinearIdeal.nD) → Buf (Elt Ideal) ((c.tc : Thread Cert.LinearIdeal.nD Cert.LinearIdeal.τ).loc Cert.LinearIdeal.main_v5)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v5) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3))
      ∧ θ_run (Cert.LinearRefIdeal.defs (F := Ideal)) (onTc (τ := Cert.LinearRefIdeal.τ) (Cert.LinearRefIdeal.main (F := Ideal))) ⟨m', fun _ => 0, g'⟩ (fun r => ∀ c : Dev Cert.LinearRefIdeal.nD,
          r.2.mem ((c.tc : Thread Cert.LinearRefIdeal.nD Cert.LinearRefIdeal.τ).loc Cert.LinearRefIdeal.main_v405) = v0 c
          ∧ r.2.mem ((c.tc : Thread Cert.LinearRefIdeal.nD Cert.LinearRefIdeal.τ).loc Cert.LinearRefIdeal.main_arg0) = m' ((c.tc : Thread Cert.LinearRefIdeal.nD Cert.LinearRefIdeal.τ).loc Cert.LinearRefIdeal.main_arg0)
          ∧ r.2.mem ((c.tc : Thread Cert.LinearRefIdeal.nD Cert.LinearRefIdeal.τ).loc Cert.LinearRefIdeal.main_arg1) = m' ((c.tc : Thread Cert.LinearRefIdeal.nD Cert.LinearRefIdeal.τ).loc Cert.LinearRefIdeal.main_arg1)
          ∧ r.2.mem ((c.tc : Thread Cert.LinearRefIdeal.nD Cert.LinearRefIdeal.τ).loc Cert.LinearRefIdeal.main_arg2) = m' ((c.tc : Thread Cert.LinearRefIdeal.nD Cert.LinearRefIdeal.τ).loc Cert.LinearRefIdeal.main_arg2)
          ∧ r.2.mem ((c.tc : Thread Cert.LinearRefIdeal.nD Cert.LinearRefIdeal.τ).loc Cert.LinearRefIdeal.main_arg3) = m' ((c.tc : Thread Cert.LinearRefIdeal.nD Cert.LinearRefIdeal.τ).loc Cert.LinearRefIdeal.main_arg3))

def Claim : Prop :=
  ∃ (hRotate : Cert.Rotate.Facts) (hRotateIdeal : Cert.RotateIdeal.Facts) (hRotateRefIdeal : Cert.RotateRefIdeal.Facts) (hLinear : Cert.Linear.Facts) (hLinearIdeal : Cert.LinearIdeal.Facts) (hLinearRefIdeal : Cert.LinearRefIdeal.Facts) (hPre_finite_inputs : Cert.Pre_finite_inputs.Facts) (hPre_finite_activations : Cert.Pre_finite_activations.Facts),
    quiescent_Rotate (hRotate := hRotate)
    ∧ quiescent_RotateIdeal (hRotateIdeal := hRotateIdeal)
    ∧ quiescent_RotateIdeal_pre_finite_inputs (hRotateIdeal := hRotateIdeal) (hPre_finite_inputs := hPre_finite_inputs)
    ∧ quiescent_RotateRefIdeal (hRotateRefIdeal := hRotateRefIdeal)
    ∧ quiescent_RotateRefIdeal_pre_finite_inputs (hRotateRefIdeal := hRotateRefIdeal) (hPre_finite_inputs := hPre_finite_inputs)
    ∧ quiescent_Linear (hLinear := hLinear)
    ∧ quiescent_LinearIdeal (hLinearIdeal := hLinearIdeal)
    ∧ quiescent_LinearIdeal_pre_finite_activations (hLinearIdeal := hLinearIdeal) (hPre_finite_activations := hPre_finite_activations)
    ∧ quiescent_LinearRefIdeal (hLinearRefIdeal := hLinearRefIdeal)
    ∧ quiescent_LinearRefIdeal_pre_finite_activations (hLinearRefIdeal := hLinearRefIdeal) (hPre_finite_activations := hPre_finite_activations)
    ∧ preserves_Rotate_RotateIdeal
    ∧ algebraic_RotateIdeal_RotateRefIdeal_pre_finite_inputs (hRotateIdeal := hRotateIdeal) (hRotateRefIdeal := hRotateRefIdeal) (hPre_finite_inputs := hPre_finite_inputs)
    ∧ preserves_Linear_LinearIdeal
    ∧ algebraic_LinearIdeal_LinearRefIdeal_pre_finite_activations (hLinearIdeal := hLinearIdeal) (hLinearRefIdeal := hLinearRefIdeal) (hPre_finite_activations := hPre_finite_activations)
-- ==== Pre_finite_activations.lean ====
abbrev S256x7168 : Shape := ⟨2, ![256, 7168]⟩
abbrev S18432x896 : Shape := ⟨2, ![18432, 896]⟩
abbrev S18432 : Shape := ⟨1, ![18432]⟩
abbrev S_ : Shape := ⟨0, ![]⟩

class Facts : Prop where
  bitsLt_bf16_f32 : FTy.bits .bf16 < FTy.bits .f32
  bcast_S_S256x7168 : S_.BroadcastsInDim S256x7168 (![] : Fin 0 → Fin S256x7168.rank)
  bcast_S_S18432 : S_.BroadcastsInDim S18432 (![] : Fin 0 → Fin S18432.rank)

variable [Facts]

def fn {F : FTy → Type} [FloatOps F] (main_arg0 : FVec F S256x7168 .bf16) (main_arg1 : IVec S18432x896 16) (main_arg2 : FVec F S18432 .f32) (main_arg3 : FVec F S18432 .f32) : IVec S256x7168 1 × IVec S18432 1 :=
  let main_v0 : FVec F S256x7168 .f32 := (extf .f32 · bitsLt_bf16_f32) main_arg0
  let main_v1 : FVec F S256x7168 .f32 := Host.absf main_v0
  let main_cst : FVec F S_ .f32 := constant S_ .f32 0x7F800000#32
  let main_v2 : FVec F S256x7168 .f32 := broadcastInDim S256x7168 ![] bcast_S_S256x7168 main_cst
  let main_v3 : IVec S256x7168 1 := cmpf .olt main_v1 main_v2
  let main_v4 : FVec F S18432 .f32 := Host.absf main_arg2
  let main_cst_0 : FVec F S_ .f32 := constant S_ .f32 0x7F800000#32
  let main_v5 : FVec F S18432 .f32 := broadcastInDim S18432 ![] bcast_S_S18432 main_cst_0
  let main_v6 : IVec S18432 1 := cmpf .olt main_v4 main_v5
  (main_v3, main_v6)
-- ==== Pre_finite_inputs.lean ====
abbrev S1x256x7168 : Shape := ⟨3, ![1, 256, 7168]⟩
abbrev S7168 : Shape := ⟨1, ![7168]⟩
abbrev S_ : Shape := ⟨0, ![]⟩

class Facts : Prop where
  bitsLt_bf16_f32 : FTy.bits .bf16 < FTy.bits .f32
  bcast_S_S1x256x7168 : S_.BroadcastsInDim S1x256x7168 (![] : Fin 0 → Fin S1x256x7168.rank)
  bcast_S_S7168 : S_.BroadcastsInDim S7168 (![] : Fin 0 → Fin S7168.rank)

variable [Facts]

def fn {F : FTy → Type} [FloatOps F] (main_arg0 : FVec F S1x256x7168 .bf16) (main_arg1 : FVec F S7168 .f32) : IVec S1x256x7168 1 × IVec S7168 1 :=
  let main_v0 : FVec F S1x256x7168 .f32 := (extf .f32 · bitsLt_bf16_f32) main_arg0
  let main_v1 : FVec F S1x256x7168 .f32 := Host.absf main_v0
  let main_cst : FVec F S_ .f32 := constant S_ .f32 0x7F800000#32
  let main_v2 : FVec F S1x256x7168 .f32 := broadcastInDim S1x256x7168 ![] bcast_S_S1x256x7168 main_cst
  let main_v3 : IVec S1x256x7168 1 := cmpf .olt main_v1 main_v2
  let main_v4 : FVec F S7168 .f32 := Host.absf main_arg1
  let main_cst_0 : FVec F S_ .f32 := constant S_ .f32 0x7F800000#32
  let main_v5 : FVec F S7168 .f32 := broadcastInDim S7168 ![] bcast_S_S7168 main_cst_0
  let main_v6 : IVec S7168 1 := cmpf .olt main_v4 main_v5
  (main_v3, main_v6)
-- ==== Rotate.lean ====
abbrev S1x256x7168 : Shape := ⟨3, ![1, 256, 7168]⟩
abbrev S7168 : Shape := ⟨1, ![7168]⟩
abbrev S256x7168 : Shape := ⟨2, ![256, 7168]⟩
abbrev S1x7168 : Shape := ⟨2, ![1, 7168]⟩
abbrev S256x1024 : Shape := ⟨2, ![256, 1024]⟩
abbrev S1x1024 : Shape := ⟨2, ![1, 1024]⟩
abbrev S256x256 : Shape := ⟨2, ![256, 256]⟩
abbrev S1x256 : Shape := ⟨2, ![1, 256]⟩

abbrev nBuf : Space → Nat
  | .hbm => 5
  | .vmem => 6
  | .smem => 0
  | _ => 0

abbrev bufTy : (tb : Table) → Fin (tcTables nBuf tb) → BufTy
  | .hbm, ⟨0, _⟩ => ⟨S1x256x7168, .bf16⟩
  | .hbm, ⟨1, _⟩ => ⟨S7168, .f32⟩
  | .hbm, ⟨2, _⟩ => ⟨S256x7168, .bf16⟩
  | .hbm, ⟨3, _⟩ => ⟨S1x7168, .f32⟩
  | .hbm, ⟨4, _⟩ => ⟨S256x7168, .bf16⟩
  | .local _ .vmem, ⟨0, _⟩ => ⟨S256x1024, .bf16⟩
  | .local _ .vmem, ⟨1, _⟩ => ⟨S256x1024, .bf16⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RotateRefIdeal.lean ====
abbrev S1x256x7168 : Shape := ⟨3, ![1, 256, 7168]⟩
abbrev S7168 : Shape := ⟨1, ![7168]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x1x7168 : Shape := ⟨3, ![1, 1, 7168]⟩
abbrev S1x256x7x1024 : Shape := ⟨4, ![1, 256, 7, 1024]⟩
abbrev S256x7168 : Shape := ⟨2, ![256, 7168]⟩

abbrev nBuf : Space → Nat
  | .hbm => 31
  | .vmem => 0
  | .smem => 0
  | _ => 0

abbrev bufTy : (tb : Table) → Fin (tcTables nBuf tb) → BufTy
  | .hbm, ⟨0, _⟩ => ⟨S1x256x7168, .bf16⟩
  | .hbm, ⟨1, _⟩ => ⟨S7168, .f32⟩
  | .hbm, ⟨2, _⟩ => ⟨S1024, .i32⟩
  | .hbm, ⟨3, _⟩ => ⟨S1024x1, .i32⟩
  | .hbm, ⟨4, _⟩ => ⟨S1x1024, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S_, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .f32⟩
  | .hbm, ⟨19, _⟩ => ⟨S1x256x7168, .f32⟩
  | .hbm, ⟨20, _⟩ => ⟨S1x1x7168, .f32⟩
  | .hbm, ⟨21, _⟩ => ⟨S1x256x7168, .f32⟩
  | .hbm, ⟨22, _⟩ => ⟨S1x256x7168, .f32⟩
  | .hbm, ⟨23, _⟩ => ⟨S1x256x7x1024, .f32⟩
  | .hbm, ⟨24, _⟩ => ⟨S1x256x7x1024, .f32⟩
  | .hbm, ⟨25, _⟩ => ⟨S_, .f32⟩
  | .hbm, ⟨26, _⟩ => ⟨S1x256x7x1024, .f32⟩
  | .hbm, ⟨27, _⟩ => ⟨S1x256x7x1024, .f32⟩
  | .hbm, ⟨28, _⟩ => ⟨S1x256x7168, .f32⟩
  | .hbm, ⟨29, _⟩ => ⟨S1x256x7168, .bf16⟩
  | .hbm, ⟨30, _⟩ => ⟨S256x7168, .bf16⟩
  | _, _ => ⟨S1x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Linear.lean ====
abbrev S256x7168 : Shape := ⟨2, ![256, 7168]⟩
abbrev S18432x896 : Shape := ⟨2, ![18432, 896]⟩
abbrev S18432 : Shape := ⟨1, ![18432]⟩
abbrev S256x7x128x8 : Shape := ⟨4, ![256, 7, 128, 8]⟩
abbrev S256x7x8x128 : Shape := ⟨4, ![256, 7, 8, 128]⟩
abbrev S1x18432 : Shape := ⟨2, ![1, 18432]⟩
abbrev S256x18432 : Shape := ⟨2, ![256, 18432]⟩
abbrev S256x896 : Shape := ⟨2, ![256, 896]⟩
abbrev S1x256 : Shape := ⟨2, ![1, 256]⟩
abbrev S1x1024 : Shape := ⟨2, ![1, 1024]⟩
abbrev S256x1024 : Shape := ⟨2, ![256, 1024]⟩
abbrev S4x256x256 : Shape := ⟨3, ![4, 256, 256]⟩
abbrev S8x128 : Shape := ⟨2, ![8, 128]⟩
abbrev S16x128 : Shape := ⟨2, ![16, 128]⟩
abbrev S256x256 : Shape := ⟨2, ![256, 256]⟩
abbrev S1x256x256 : Shape := ⟨3, ![1, 256, 256]⟩

abbrev nBuf : Space → Nat
  | .hbm => 10
  | .vmem => 11
  | .smem => 0
  | _ => 0

abbrev bufTy : (tb : Table) → Fin (tcTables nBuf tb) → BufTy
  | .hbm, ⟨0, _⟩ => ⟨S256x7168, .bf16⟩
  | .hbm, ⟨1, _⟩ => ⟨S18432x896, .i16⟩
  | .hbm, ⟨2, _⟩ => ⟨S18432, .f32⟩
  | .hbm, ⟨3, _⟩ => ⟨S18432, .f32⟩
  | .hbm, ⟨4, _⟩ => ⟨S256x7x128x8, .bf16⟩
  | .hbm, ⟨5, _⟩ => ⟨S256x7x8x128, .bf16⟩
  | .hbm, ⟨6, _⟩ => ⟨S256x7168, .bf16⟩
  | .hbm, ⟨7, _⟩ => ⟨S1x18432, .f32⟩
  | .hbm, ⟨8, _⟩ => ⟨S1x18432, .f32⟩
  | .hbm, ⟨9, _⟩ => ⟨S256x18432, .bf16⟩
  | .local _ .vmem, ⟨0, _⟩ => ⟨S256x7168, .bf16⟩
  | .local _ .vmem, ⟨1, _⟩ => ⟨S256x896, .i16⟩
  | .local _ .vmem, ⟨2, _⟩ => ⟨S256x896, .i16⟩
  | .local _ .vmem, ⟨3, _⟩ => ⟨S1x256, .f32⟩
  | .local _ .vmem, ⟨4, _⟩ => ⟨S1x256, .f32⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x7168, .bf16⟩
  | .local _ .vmem, ⟨10, _⟩ => ⟨S4x256x256, .f32⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![18, 4], ![false, false]⟩

@[reducible] def k0_t1_loop : Scf.Loop 32 :=
  let c0_i32 : BitVec 32 := 0#32
  let c112_i32 : BitVec 32 := 112#32
  let v5 : BitVec 32 := Scalar.addi c0_i32 c112_i32
  let c1_i32 : BitVec 32 := 1#32
  ⟨c0_i32, v5, c1_i32⟩
def k0_off1 (k0_t1 : Fin k0_t1_loop.trips) : Fin 2 → Nat :=
  let c0_i32_12 : BitVec 32 := 0#32
  let c0_i32 : BitVec 32 := 0#32
  let c1_i32 : BitVec 32 := 1#32
  let arg9 : BitVec 32 := Scf.iv c0_i32 c1_i32 k0_t1
  let c1_i32_11 : BitVec 32 := 1#32
  let v23 : BitVec 32 := Scalar.muli arg9 c1_i32_11
  let v24 : BitVec 32 := Scalar.addi c0_i32_12 v23
  let c16_i32_13 : BitVec 32 := 16#32
  let v26 : BitVec 32 := Scalar.remsi v24 c16_i32_13
  let c16_i32_14 : BitVec 32 := 16#32
  let v27 : BitVec 32 := Scalar.muli v26 c16_i32_14
  let v29 : Index := Scalar.indexCast v27
  let c16_i32 : BitVec 32 := 16#32
  let v25 : BitVec 32 := Scalar.divsi v24 c16_i32
  let c128_i32 : BitVec 32 := 128#32
  let v28 : BitVec 32 := Scalar.muli v25 c128_i32
  let v30 : Index := Scalar.indexCast v28
  ![v29.toNat, v30.toNat]
def k0_off2 (k0_t1 : Fin k0_t1_loop.trips) (c0_i32_32 : BitVec 32) : Fin 2 → Nat :=
  let c0_i32_12 : BitVec 32 := 0#32
  let c0_i32 : BitVec 32 := 0#32
  let c1_i32 : BitVec 32 := 1#32
  let arg9 : BitVec 32 := Scf.iv c0_i32 c1_i32 k0_t1
  let c1_i32_11 : BitVec 32 := 1#32
  let v23 : BitVec 32 := Scalar.muli arg9 c1_i32_11
  let v24 : BitVec 32 := Scalar.addi c0_i32_12 v23
  let c16_i32_13 : BitVec 32 := 16#32
  let v26 : BitVec 32 := Scalar.remsi v24 c16_i32_13
  let c16_i32_14 : BitVec 32 := 16#32
  let v27 : BitVec 32 := Scalar.muli v26 c16_i32_14
  let v97 : Index := Scalar.indexCast v27
  let c16_i32 : BitVec 32 := 16#32
  let v25 : BitVec 32 := Scalar.divsi v24 c16_i32
  let c8_i32 : BitVec 32 := 8#32
  let v94 : BitVec 32 := Scalar.muli v25 c8_i32
  let v95 : BitVec 32 := Scalar.addi v94 c0_i32_32
  let c128_i32_33 : BitVec 32 := 128#32
  let v96 : BitVec 32 := Scalar.muli v95 c128_i32_33
  let v98 : Index := Scalar.indexCast v96
  ![v97.toNat, v98.toNat]
def k0_off3 (i : grid0.Coords) : Fin 3 → Nat :=
  let arg1 : BitVec 32 := BitVec.ofNat 32 (i 1).val
  let v16 : Index := Scalar.indexCast arg1
  let c0_8 : Index := 0#32
  let c0_9 : Index := 0#32
  ![v16.toNat, 0, 0]
def k0_cond1 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x896 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LinearIdeal.lean ====
variable {F : FTy → Type} [FloatOps F]
-- ==== LinearRefIdeal.lean ====
abbrev S256x7168 : Shape := ⟨2, ![256, 7168]⟩
abbrev S18432x896 : Shape := ⟨2, ![18432, 896]⟩
abbrev S18432 : Shape := ⟨1, ![18432]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S18432x28x32 : Shape := ⟨3, ![18432, 28, 32]⟩
abbrev S18432x28x31 : Shape := ⟨3, ![18432, 28, 31]⟩
abbrev S18432x28x1 : Shape := ⟨3, ![18432, 28, 1]⟩
abbrev S256x896 : Shape := ⟨2, ![256, 896]⟩
abbrev S256x18432 : Shape := ⟨2, ![256, 18432]⟩
abbrev S1x18432 : Shape := ⟨2, ![1, 18432]⟩
abbrev S256x18x1024 : Shape := ⟨3, ![256, 18, 1024]⟩

abbrev nBuf : Space → Nat
  | .hbm => 565
  | .vmem => 0
  | .smem => 0
  | _ => 0

abbrev hbmTy0_0 (i : Nat) : BufTy := match i % 128 with
  | 0 => ⟨S256x7168, .bf16⟩
  | 1 => ⟨S18432x896, .i16⟩
  | 2 => ⟨S18432, .f32⟩
  | 3 => ⟨S18432, .f32⟩
  | 4 => ⟨S1024, .i32⟩
  | 5 => ⟨S1024x1, .i32⟩
  | 6 => ⟨S1x1024, .i32⟩
  | 7 => ⟨S1024x1024, .i32⟩
  | 8 => ⟨S1024x1024, .i32⟩
  | 9 => ⟨S1024x1024, .i32⟩
  | 10 => ⟨S1024x1024, .i32⟩
  | 11 => ⟨S_, .i32⟩
  | 12 => ⟨S1024x1024, .i32⟩
  | 13 => ⟨S1024x1024, .i32⟩
  | 14 => ⟨S_, .i32⟩
  | 15 => ⟨S1024x1024, .i32⟩
  | 16 => ⟨S1024x1024, .i32⟩
  | 17 => ⟨S_, .i32⟩
  | 18 => ⟨S1024x1024, .i32⟩
  | 19 => ⟨S1024x1024, .i32⟩
  | 20 => ⟨S1024x1024, .f32⟩
  | 21 => ⟨S18432x896, .i32⟩
  | 22 => ⟨S18432x28x32, .i32⟩
  | 23 => ⟨S18432x28x31, .i32⟩
  | 24 => ⟨S18432x28x1, .i32⟩
  | 25 => ⟨S18432x28x32, .i32⟩
  | 26 => ⟨S18432x896, .i32⟩
  | 27 => ⟨S_, .i32⟩
  | 28 => ⟨S18432x896, .i32⟩
  | 29 => ⟨S18432x896, .i32⟩
  | 30 => ⟨S_, .i32⟩
  | 31 => ⟨S18432x896, .i32⟩
  | 32 => ⟨S18432x896, .i32⟩
  | 33 => ⟨S_, .i32⟩
  | 34 => ⟨S18432x896, .i32⟩
  | 35 => ⟨S18432x896, .i32⟩
  | 36 => ⟨S_, .i32⟩
  | 37 => ⟨S18432x896, .i32⟩
  | 38 => ⟨S18432x896, .i32⟩
  | 39 => ⟨S_, .i32⟩
  | 40 => ⟨S18432x896, .i32⟩
  | 41 => ⟨S18432x896, .i32⟩
  | 42 => ⟨S_, .i32⟩
  | 43 => ⟨S18432x896, .i32⟩
  | 44 => ⟨S18432x896, .i32⟩
  | 45 => ⟨S_, .i32⟩
  | 46 => ⟨S18432x896, .i32⟩
  | 47 => ⟨S18432x896, .i32⟩
  | 48 => ⟨S_, .i32⟩
  | 49 => ⟨S18432x896, .i32⟩
  | 50 => ⟨S18432x896, .i32⟩
  | 51 => ⟨S_, .i32⟩
  | 52 => ⟨S18432x896, .i32⟩
  | 53 => ⟨S18432x896, .i32⟩
  | 54 => ⟨S_, .i32⟩
  | 55 => ⟨S18432x896, .i32⟩
  | 56 => ⟨S18432x896, .i32⟩
  | 57 => ⟨S_, .i32⟩
  | 58 => ⟨S18432x896, .i32⟩
  | 59 => ⟨S18432x896, .i32⟩
  | 60 => ⟨S18432x896, .i32⟩
  | 61 => ⟨S18432x896, .f32⟩
  | 62 => ⟨S_, .i32⟩
  | 63 => ⟨S18432x896, .i32⟩
  | 64 => ⟨S18432x896, .i32⟩
  | 65 => ⟨S_, .i32⟩
  | 66 => ⟨S18432x896, .i32⟩
  | 67 => ⟨S18432x896, .i32⟩
  | 68 => ⟨S_, .i32⟩
  | 69 => ⟨S18432x896, .i32⟩
  | 70 => ⟨S18432x896, .i32⟩
  | 71 => ⟨S_, .i32⟩
  | 72 => ⟨S18432x896, .i32⟩
  | 73 => ⟨S18432x896, .i32⟩
  | 74 => ⟨S_, .i32⟩
  | 75 => ⟨S18432x896, .i32⟩
  | 76 => ⟨S18432x896, .i32⟩
  | 77 => ⟨S18432x896, .i32⟩
  | 78 => ⟨S18432x896, .f32⟩
  | 79 => ⟨S18432x896, .f32⟩
  | 80 => ⟨S18432x896, .bf16⟩
  | 81 => ⟨S256x896, .bf16⟩
  | 82 => ⟨S256x18432, .f32⟩
  | 83 => ⟨S_, .i32⟩
  | 84 => ⟨S18432x896, .i32⟩
  | 85 => ⟨S18432x896, .i32⟩
  | 86 => ⟨S_, .i32⟩
  | 87 => ⟨S18432x896, .i32⟩
  | 88 => ⟨S18432x896, .i32⟩
  | 89 => ⟨S18432x896, .i32⟩
  | 90 => ⟨S_, .i32⟩
  | 91 => ⟨S18432x896, .i32⟩
  | 92 => ⟨S18432x896, .i32⟩
  | 93 => ⟨S_, .i32⟩
  | 94 => ⟨S18432x896, .i32⟩
  | 95 => ⟨S18432x896, .i32⟩
  | 96 => ⟨S_, .i32⟩
  | 97 => ⟨S18432x896, .i32⟩
  | 98 => ⟨S18432x896, .i32⟩
  | 99 => ⟨S_, .i32⟩
  | 100 => ⟨S18432x896, .i32⟩
  | 101 => ⟨S18432x896, .i32⟩
  | 102 => ⟨S_, .i32⟩
  | 103 => ⟨S18432x896, .i32⟩
  | 104 => ⟨S18432x896, .i32⟩
  | 105 => ⟨S_, .i32⟩
  | 106 => ⟨S18432x896, .i32⟩
  | 107 => ⟨S18432x896, .i32⟩
  | 108 => ⟨S_, .i32⟩
  | 109 => ⟨S18432x896, .i32⟩
  | 110 => ⟨S18432x896, .i32⟩
  | 111 => ⟨S_, .i32⟩
  | 112 => ⟨S18432x896, .i32⟩
  | 113 => ⟨S18432x896, .i32⟩
  | 114 => ⟨S_, .i32⟩
  | 115 => ⟨S18432x896, .i32⟩
  | 116 => ⟨S18432x896, .i32⟩
  | 117 => ⟨S_, .i32⟩
  | 118 => ⟨S18432x896, .i32⟩
  | 119 => ⟨S18432x896, .i32⟩
  | 120 => ⟨S_, .i32⟩
  | 121 => ⟨S18432x896, .i32⟩
  | 122 => ⟨S18432x896, .i32⟩
  | 123 => ⟨S_, .i32⟩
  | 124 => ⟨S18432x896, .i32⟩
  | 125 => ⟨S18432x896, .i32⟩
  | 126 => ⟨S18432x896, .i32⟩
  | 127 => ⟨S18432x896, .f32⟩
  | _ => ⟨S256x7168, .bf16⟩

abbrev hbmTy0_1 (i : Nat) : BufTy := match i % 128 with
  | 0 => ⟨S_, .i32⟩
  | 1 => ⟨S18432x896, .i32⟩
  | 2 => ⟨S18432x896, .i32⟩
  | 3 => ⟨S_, .i32⟩
  | 4 => ⟨S18432x896, .i32⟩
  | 5 => ⟨S18432x896, .i32⟩
  | 6 => ⟨S_, .i32⟩
  | 7 => ⟨S18432x896, .i32⟩
  | 8 => ⟨S18432x896, .i32⟩
  | 9 => ⟨S_, .i32⟩
  | 10 => ⟨S18432x896, .i32⟩
  | 11 => ⟨S18432x896, .i32⟩
  | 12 => ⟨S_, .i32⟩
  | 13 => ⟨S18432x896, .i32⟩
  | 14 => ⟨S18432x896, .i32⟩
  | 15 => ⟨S18432x896, .i32⟩
  | 16 => ⟨S18432x896, .f32⟩
  | 17 => ⟨S18432x896, .f32⟩
  | 18 => ⟨S18432x896, .bf16⟩
  | 19 => ⟨S256x896, .bf16⟩
  | 20 => ⟨S256x18432, .f32⟩
  | 21 => ⟨S256x18432, .f32⟩
  | 22 => ⟨S_, .i32⟩
  | 23 => ⟨S18432x896, .i32⟩
  | 24 => ⟨S18432x896, .i32⟩
  | 25 => ⟨S_, .i32⟩
  | 26 => ⟨S18432x896, .i32⟩
  | 27 => ⟨S18432x896, .i32⟩
  | 28 => ⟨S18432x896, .i32⟩
  | 29 => ⟨S_, .i32⟩
  | 30 => ⟨S18432x896, .i32⟩
  | 31 => ⟨S18432x896, .i32⟩
  | 32 => ⟨S_, .i32⟩
  | 33 => ⟨S18432x896, .i32⟩
  | 34 => ⟨S18432x896, .i32⟩
  | 35 => ⟨S_, .i32⟩
  | 36 => ⟨S18432x896, .i32⟩
  | 37 => ⟨S18432x896, .i32⟩
  | 38 => ⟨S_, .i32⟩
  | 39 => ⟨S18432x896, .i32⟩
  | 40 => ⟨S18432x896, .i32⟩
  | 41 => ⟨S_, .i32⟩
  | 42 => ⟨S18432x896, .i32⟩
  | 43 => ⟨S18432x896, .i32⟩
  | 44 => ⟨S_, .i32⟩
  | 45 => ⟨S18432x896, .i32⟩
  | 46 => ⟨S18432x896, .i32⟩
  | 47 => ⟨S_, .i32⟩
  | 48 => ⟨S18432x896, .i32⟩
  | 49 => ⟨S18432x896, .i32⟩
  | 50 => ⟨S_, .i32⟩
  | 51 => ⟨S18432x896, .i32⟩
  | 52 => ⟨S18432x896, .i32⟩
  | 53 => ⟨S_, .i32⟩
  | 54 => ⟨S18432x896, .i32⟩
  | 55 => ⟨S18432x896, .i32⟩
  | 56 => ⟨S_, .i32⟩
  | 57 => ⟨S18432x896, .i32⟩
  | 58 => ⟨S18432x896, .i32⟩
  | 59 => ⟨S_, .i32⟩
  | 60 => ⟨S18432x896, .i32⟩
  | 61 => ⟨S18432x896, .i32⟩
  | 62 => ⟨S_, .i32⟩
  | 63 => ⟨S18432x896, .i32⟩
  | 64 => ⟨S18432x896, .i32⟩
  | 65 => ⟨S18432x896, .i32⟩
  | 66 => ⟨S18432x896, .f32⟩
  | 67 => ⟨S_, .i32⟩
  | 68 => ⟨S18432x896, .i32⟩
  | 69 => ⟨S18432x896, .i32⟩
  | 70 => ⟨S_, .i32⟩
  | 71 => ⟨S18432x896, .i32⟩
  | 72 => ⟨S18432x896, .i32⟩
  | 73 => ⟨S_, .i32⟩
  | 74 => ⟨S18432x896, .i32⟩
  | 75 => ⟨S18432x896, .i32⟩
  | 76 => ⟨S_, .i32⟩
  | 77 => ⟨S18432x896, .i32⟩
  | 78 => ⟨S18432x896, .i32⟩
  | 79 => ⟨S_, .i32⟩
  | 80 => ⟨S18432x896, .i32⟩
  | 81 => ⟨S18432x896, .i32⟩
  | 82 => ⟨S18432x896, .i32⟩
  | 83 => ⟨S18432x896, .f32⟩
  | 84 => ⟨S18432x896, .f32⟩
  | 85 => ⟨S18432x896, .bf16⟩
  | 86 => ⟨S256x896, .bf16⟩
  | 87 => ⟨S256x18432, .f32⟩
  | 88 => ⟨S256x18432, .f32⟩
  | 89 => ⟨S_, .i32⟩
  | 90 => ⟨S18432x896, .i32⟩
  | 91 => ⟨S18432x896, .i32⟩
  | 92 => ⟨S_, .i32⟩
  | 93 => ⟨S18432x896, .i32⟩
  | 94 => ⟨S18432x896, .i32⟩
  | 95 => ⟨S18432x896, .i32⟩
  | 96 => ⟨S_, .i32⟩
  | 97 => ⟨S18432x896, .i32⟩
  | 98 => ⟨S18432x896, .i32⟩
  | 99 => ⟨S_, .i32⟩
  | 100 => ⟨S18432x896, .i32⟩
  | 101 => ⟨S18432x896, .i32⟩
  | 102 => ⟨S_, .i32⟩
  | 103 => ⟨S18432x896, .i32⟩
  | 104 => ⟨S18432x896, .i32⟩
  | 105 => ⟨S_, .i32⟩
  | 106 => ⟨S18432x896, .i32⟩
  | 107 => ⟨S18432x896, .i32⟩
  | 108 => ⟨S_, .i32⟩
  | 109 => ⟨S18432x896, .i32⟩
  | 110 => ⟨S18432x896, .i32⟩
  | 111 => ⟨S_, .i32⟩
  | 112 => ⟨S18432x896, .i32⟩
  | 113 => ⟨S18432x896, .i32⟩
  | 114 => ⟨S_, .i32⟩
  | 115 => ⟨S18432x896, .i32⟩
  | 116 => ⟨S18432x896, .i32⟩
  | 117 => ⟨S_, .i32⟩
  | 118 => ⟨S18432x896, .i32⟩
  | 119 => ⟨S18432x896, .i32⟩
  | 120 => ⟨S_, .i32⟩
  | 121 => ⟨S18432x896, .i32⟩
  | 122 => ⟨S18432x896, .i32⟩
  | 123 => ⟨S_, .i32⟩
  | 124 => ⟨S18432x896, .i32⟩
  | 125 => ⟨S18432x896, .i32⟩
  | 126 => ⟨S_, .i32⟩
  | 127 => ⟨S18432x896, .i32⟩
  | _ => ⟨S256x7168, .bf16⟩

abbrev hbmTy0_2 (i : Nat) : BufTy := match i % 128 with
  | 0 => ⟨S18432x896, .i32⟩
  | 1 => ⟨S_, .i32⟩
  | 2 => ⟨S18432x896, .i32⟩
  | 3 => ⟨S18432x896, .i32⟩
  | 4 => ⟨S18432x896, .i32⟩
  | 5 => ⟨S18432x896, .f32⟩
  | 6 => ⟨S_, .i32⟩
  | 7 => ⟨S18432x896, .i32⟩
  | 8 => ⟨S18432x896, .i32⟩
  | 9 => ⟨S_, .i32⟩
  | 10 => ⟨S18432x896, .i32⟩
  | 11 => ⟨S18432x896, .i32⟩
  | 12 => ⟨S_, .i32⟩
  | 13 => ⟨S18432x896, .i32⟩
  | 14 => ⟨S18432x896, .i32⟩
  | 15 => ⟨S_, .i32⟩
  | 16 => ⟨S18432x896, .i32⟩
  | 17 => ⟨S18432x896, .i32⟩
  | 18 => ⟨S_, .i32⟩
  | 19 => ⟨S18432x896, .i32⟩
  | 20 => ⟨S18432x896, .i32⟩
  | 21 => ⟨S18432x896, .i32⟩
  | 22 => ⟨S18432x896, .f32⟩
  | 23 => ⟨S18432x896, .f32⟩
  | 24 => ⟨S18432x896, .bf16⟩
  | 25 => ⟨S256x896, .bf16⟩
  | 26 => ⟨S256x18432, .f32⟩
  | 27 => ⟨S256x18432, .f32⟩
  | 28 => ⟨S_, .i32⟩
  | 29 => ⟨S18432x896, .i32⟩
  | 30 => ⟨S18432x896, .i32⟩
  | 31 => ⟨S_, .i32⟩
  | 32 => ⟨S18432x896, .i32⟩
  | 33 => ⟨S18432x896, .i32⟩
  | 34 => ⟨S18432x896, .i32⟩
  | 35 => ⟨S_, .i32⟩
  | 36 => ⟨S18432x896, .i32⟩
  | 37 => ⟨S18432x896, .i32⟩
  | 38 => ⟨S_, .i32⟩
  | 39 => ⟨S18432x896, .i32⟩
  | 40 => ⟨S18432x896, .i32⟩
  | 41 => ⟨S_, .i32⟩
  | 42 => ⟨S18432x896, .i32⟩
  | 43 => ⟨S18432x896, .i32⟩
  | 44 => ⟨S_, .i32⟩
  | 45 => ⟨S18432x896, .i32⟩
  | 46 => ⟨S18432x896, .i32⟩
  | 47 => ⟨S_, .i32⟩
  | 48 => ⟨S18432x896, .i32⟩
  | 49 => ⟨S18432x896, .i32⟩
  | 50 => ⟨S_, .i32⟩
  | 51 => ⟨S18432x896, .i32⟩
  | 52 => ⟨S18432x896, .i32⟩
  | 53 => ⟨S_, .i32⟩
  | 54 => ⟨S18432x896, .i32⟩
  | 55 => ⟨S18432x896, .i32⟩
  | 56 => ⟨S_, .i32⟩
  | 57 => ⟨S18432x896, .i32⟩
  | 58 => ⟨S18432x896, .i32⟩
  | 59 => ⟨S_, .i32⟩
  | 60 => ⟨S18432x896, .i32⟩
  | 61 => ⟨S18432x896, .i32⟩
  | 62 => ⟨S_, .i32⟩
  | 63 => ⟨S18432x896, .i32⟩
  | 64 => ⟨S18432x896, .i32⟩
  | 65 => ⟨S_, .i32⟩
  | 66 => ⟨S18432x896, .i32⟩
  | 67 => ⟨S18432x896, .i32⟩
  | 68 => ⟨S_, .i32⟩
  | 69 => ⟨S18432x896, .i32⟩
  | 70 => ⟨S18432x896, .i32⟩
  | 71 => ⟨S18432x896, .i32⟩
  | 72 => ⟨S18432x896, .f32⟩
  | 73 => ⟨S_, .i32⟩
  | 74 => ⟨S18432x896, .i32⟩
  | 75 => ⟨S18432x896, .i32⟩
  | 76 => ⟨S_, .i32⟩
  | 77 => ⟨S18432x896, .i32⟩
  | 78 => ⟨S18432x896, .i32⟩
  | 79 => ⟨S_, .i32⟩
  | 80 => ⟨S18432x896, .i32⟩
  | 81 => ⟨S18432x896, .i32⟩
  | 82 => ⟨S_, .i32⟩
  | 83 => ⟨S18432x896, .i32⟩
  | 84 => ⟨S18432x896, .i32⟩
  | 85 => ⟨S_, .i32⟩
  | 86 => ⟨S18432x896, .i32⟩
  | 87 => ⟨S18432x896, .i32⟩
  | 88 => ⟨S18432x896, .i32⟩
  | 89 => ⟨S18432x896, .f32⟩
  | 90 => ⟨S18432x896, .f32⟩
  | 91 => ⟨S18432x896, .bf16⟩
  | 92 => ⟨S256x896, .bf16⟩
  | 93 => ⟨S256x18432, .f32⟩
  | 94 => ⟨S256x18432, .f32⟩
  | 95 => ⟨S_, .i32⟩
  | 96 => ⟨S18432x896, .i32⟩
  | 97 => ⟨S18432x896, .i32⟩
  | 98 => ⟨S_, .i32⟩
  | 99 => ⟨S18432x896, .i32⟩
  | 100 => ⟨S18432x896, .i32⟩
  | 101 => ⟨S18432x896, .i32⟩
  | 102 => ⟨S_, .i32⟩
  | 103 => ⟨S18432x896, .i32⟩
  | 104 => ⟨S18432x896, .i32⟩
  | 105 => ⟨S_, .i32⟩
  | 106 => ⟨S18432x896, .i32⟩
  | 107 => ⟨S18432x896, .i32⟩
  | 108 => ⟨S_, .i32⟩
  | 109 => ⟨S18432x896, .i32⟩
  | 110 => ⟨S18432x896, .i32⟩
  | 111 => ⟨S_, .i32⟩
  | 112 => ⟨S18432x896, .i32⟩
  | 113 => ⟨S18432x896, .i32⟩
  | 114 => ⟨S_, .i32⟩
  | 115 => ⟨S18432x896, .i32⟩
  | 116 => ⟨S18432x896, .i32⟩
  | 117 => ⟨S_, .i32⟩
  | 118 => ⟨S18432x896, .i32⟩
  | 119 => ⟨S18432x896, .i32⟩
  | 120 => ⟨S_, .i32⟩
  | 121 => ⟨S18432x896, .i32⟩
  | 122 => ⟨S18432x896, .i32⟩
  | 123 => ⟨S_, .i32⟩
  | 124 => ⟨S18432x896, .i32⟩
  | 125 => ⟨S18432x896, .i32⟩
  | 126 => ⟨S_, .i32⟩
  | 127 => ⟨S18432x896, .i32⟩
  | _ => ⟨S256x7168, .bf16⟩

abbrev hbmTy0_3 (i : Nat) : BufTy := match i % 128 with
  | 0 => ⟨S18432x896, .i32⟩
  | 1 => ⟨S_, .i32⟩
  | 2 => ⟨S18432x896, .i32⟩
  | 3 => ⟨S18432x896, .i32⟩
  | 4 => ⟨S_, .i32⟩
  | 5 => ⟨S18432x896, .i32⟩
  | 6 => ⟨S18432x896, .i32⟩
  | 7 => ⟨S_, .i32⟩
  | 8 => ⟨S18432x896, .i32⟩
  | 9 => ⟨S18432x896, .i32⟩
  | 10 => ⟨S18432x896, .i32⟩
  | 11 => ⟨S18432x896, .f32⟩
  | 12 => ⟨S_, .i32⟩
  | 13 => ⟨S18432x896, .i32⟩
  | 14 => ⟨S18432x896, .i32⟩
  | 15 => ⟨S_, .i32⟩
  | 16 => ⟨S18432x896, .i32⟩
  | 17 => ⟨S18432x896, .i32⟩
  | 18 => ⟨S_, .i32⟩
  | 19 => ⟨S18432x896, .i32⟩
  | 20 => ⟨S18432x896, .i32⟩
  | 21 => ⟨S_, .i32⟩
  | 22 => ⟨S18432x896, .i32⟩
  | 23 => ⟨S18432x896, .i32⟩
  | 24 => ⟨S_, .i32⟩
  | 25 => ⟨S18432x896, .i32⟩
  | 26 => ⟨S18432x896, .i32⟩
  | 27 => ⟨S18432x896, .i32⟩
  | 28 => ⟨S18432x896, .f32⟩
  | 29 => ⟨S18432x896, .f32⟩
  | 30 => ⟨S18432x896, .bf16⟩
  | 31 => ⟨S256x896, .bf16⟩
  | 32 => ⟨S256x18432, .f32⟩
  | 33 => ⟨S256x18432, .f32⟩
  | 34 => ⟨S_, .i32⟩
  | 35 => ⟨S18432x896, .i32⟩
  | 36 => ⟨S18432x896, .i32⟩
  | 37 => ⟨S_, .i32⟩
  | 38 => ⟨S18432x896, .i32⟩
  | 39 => ⟨S18432x896, .i32⟩
  | 40 => ⟨S18432x896, .i32⟩
  | 41 => ⟨S_, .i32⟩
  | 42 => ⟨S18432x896, .i32⟩
  | 43 => ⟨S18432x896, .i32⟩
  | 44 => ⟨S_, .i32⟩
  | 45 => ⟨S18432x896, .i32⟩
  | 46 => ⟨S18432x896, .i32⟩
  | 47 => ⟨S_, .i32⟩
  | 48 => ⟨S18432x896, .i32⟩
  | 49 => ⟨S18432x896, .i32⟩
  | 50 => ⟨S_, .i32⟩
  | 51 => ⟨S18432x896, .i32⟩
  | 52 => ⟨S18432x896, .i32⟩
  | 53 => ⟨S_, .i32⟩
  | 54 => ⟨S18432x896, .i32⟩
  | 55 => ⟨S18432x896, .i32⟩
  | 56 => ⟨S_, .i32⟩
  | 57 => ⟨S18432x896, .i32⟩
  | 58 => ⟨S18432x896, .i32⟩
  | 59 => ⟨S_, .i32⟩
  | 60 => ⟨S18432x896, .i32⟩
  | 61 => ⟨S18432x896, .i32⟩
  | 62 => ⟨S_, .i32⟩
  | 63 => ⟨S18432x896, .i32⟩
  | 64 => ⟨S18432x896, .i32⟩
  | 65 => ⟨S_, .i32⟩
  | 66 => ⟨S18432x896, .i32⟩
  | 67 => ⟨S18432x896, .i32⟩
  | 68 => ⟨S_, .i32⟩
  | 69 => ⟨S18432x896, .i32⟩
  | 70 => ⟨S18432x896, .i32⟩
  | 71 => ⟨S_, .i32⟩
  | 72 => ⟨S18432x896, .i32⟩
  | 73 => ⟨S18432x896, .i32⟩
  | 74 => ⟨S_, .i32⟩
  | 75 => ⟨S18432x896, .i32⟩
  | 76 => ⟨S18432x896, .i32⟩
  | 77 => ⟨S18432x896, .i32⟩
  | 78 => ⟨S18432x896, .f32⟩
  | 79 => ⟨S_, .i32⟩
  | 80 => ⟨S18432x896, .i32⟩
  | 81 => ⟨S18432x896, .i32⟩
  | 82 => ⟨S_, .i32⟩
  | 83 => ⟨S18432x896, .i32⟩
  | 84 => ⟨S18432x896, .i32⟩
  | 85 => ⟨S_, .i32⟩
  | 86 => ⟨S18432x896, .i32⟩
  | 87 => ⟨S18432x896, .i32⟩
  | 88 => ⟨S_, .i32⟩
  | 89 => ⟨S18432x896, .i32⟩
  | 90 => ⟨S18432x896, .i32⟩
  | 91 => ⟨S_, .i32⟩
  | 92 => ⟨S18432x896, .i32⟩
  | 93 => ⟨S18432x896, .i32⟩
  | 94 => ⟨S18432x896, .i32⟩
  | 95 => ⟨S18432x896, .f32⟩
  | 96 => ⟨S18432x896, .f32⟩
  | 97 => ⟨S18432x896, .bf16⟩
  | 98 => ⟨S256x896, .bf16⟩
  | 99 => ⟨S256x18432, .f32⟩
  | 100 => ⟨S256x18432, .f32⟩
  | 101 => ⟨S_, .i32⟩
  | 102 => ⟨S18432x896, .i32⟩
  | 103 => ⟨S18432x896, .i32⟩
  | 104 => ⟨S_, .i32⟩
  | 105 => ⟨S18432x896, .i32⟩
  | 106 => ⟨S18432x896, .i32⟩
  | 107 => ⟨S18432x896, .i32⟩
  | 108 => ⟨S_, .i32⟩
  | 109 => ⟨S18432x896, .i32⟩
  | 110 => ⟨S18432x896, .i32⟩
  | 111 => ⟨S_, .i32⟩
  | 112 => ⟨S18432x896, .i32⟩
  | 113 => ⟨S18432x896, .i32⟩
  | 114 => ⟨S_, .i32⟩
  | 115 => ⟨S18432x896, .i32⟩
  | 116 => ⟨S18432x896, .i32⟩
  | 117 => ⟨S_, .i32⟩
  | 118 => ⟨S18432x896, .i32⟩
  | 119 => ⟨S18432x896, .i32⟩
  | 120 => ⟨S_, .i32⟩
  | 121 => ⟨S18432x896, .i32⟩
  | 122 => ⟨S18432x896, .i32⟩
  | 123 => ⟨S_, .i32⟩
  | 124 => ⟨S18432x896, .i32⟩
  | 125 => ⟨S18432x896, .i32⟩
  | 126 => ⟨S_, .i32⟩
  | 127 => ⟨S18432x896, .i32⟩
  | _ => ⟨S256x7168, .bf16⟩

abbrev hbmTy0_4 (i : Nat) : BufTy := match i % 128 with
  | 0 => ⟨S18432x896, .i32⟩
  | 1 => ⟨S_, .i32⟩
  | 2 => ⟨S18432x896, .i32⟩
  | 3 => ⟨S18432x896, .i32⟩
  | 4 => ⟨S_, .i32⟩
  | 5 => ⟨S18432x896, .i32⟩
  | 6 => ⟨S18432x896, .i32⟩
  | 7 => ⟨S_, .i32⟩
  | 8 => ⟨S18432x896, .i32⟩
  | 9 => ⟨S18432x896, .i32⟩
  | 10 => ⟨S_, .i32⟩
  | 11 => ⟨S18432x896, .i32⟩
  | 12 => ⟨S18432x896, .i32⟩
  | 13 => ⟨S_, .i32⟩
  | 14 => ⟨S18432x896, .i32⟩
  | 15 => ⟨S18432x896, .i32⟩
  | 16 => ⟨S18432x896, .i32⟩
  | 17 => ⟨S18432x896, .f32⟩
  | 18 => ⟨S_, .i32⟩
  | 19 => ⟨S18432x896, .i32⟩
  | 20 => ⟨S18432x896, .i32⟩
  | 21 => ⟨S_, .i32⟩
  | 22 => ⟨S18432x896, .i32⟩
  | 23 => ⟨S18432x896, .i32⟩
  | 24 => ⟨S_, .i32⟩
  | 25 => ⟨S18432x896, .i32⟩
  | 26 => ⟨S18432x896, .i32⟩
  | 27 => ⟨S_, .i32⟩
  | 28 => ⟨S18432x896, .i32⟩
  | 29 => ⟨S18432x896, .i32⟩
  | 30 => ⟨S_, .i32⟩
  | 31 => ⟨S18432x896, .i32⟩
  | 32 => ⟨S18432x896, .i32⟩
  | 33 => ⟨S18432x896, .i32⟩
  | 34 => ⟨S18432x896, .f32⟩
  | 35 => ⟨S18432x896, .f32⟩
  | 36 => ⟨S18432x896, .bf16⟩
  | 37 => ⟨S256x896, .bf16⟩
  | 38 => ⟨S256x18432, .f32⟩
  | 39 => ⟨S256x18432, .f32⟩
  | 40 => ⟨S1x18432, .f32⟩
  | 41 => ⟨S256x18432, .f32⟩
  | 42 => ⟨S256x18432, .f32⟩
  | 43 => ⟨S256x18x1024, .f32⟩
  | 44 => ⟨S256x18x1024, .f32⟩
  | 45 => ⟨S_, .f32⟩
  | 46 => ⟨S256x18x1024, .f32⟩
  | 47 => ⟨S256x18x1024, .f32⟩
  | 48 => ⟨S256x18432, .f32⟩
  | 49 => ⟨S1x18432, .f32⟩
  | 50 => ⟨S256x18432, .f32⟩
  | 51 => ⟨S256x18432, .f32⟩
  | 52 => ⟨S256x18432, .bf16⟩
  | _ => ⟨S256x7168, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x7168, .bf16⟩

abbrev bufTy : (tb : Table) → Fin (tcTables nBuf tb) → BufTy
  | .hbm, ⟨i, _⟩ => hbmTy i
  | _, _ => ⟨S256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_v33 : Ref sig .tc := ⟨.hbm, 50, rfl⟩
abbrev main_c_10 : Ref sig .tc := ⟨.hbm, 51, rfl⟩
abbrev main_v34 : Ref sig .tc := ⟨.hbm, 52, rfl⟩
abbrev main_v35 : Ref sig .tc := ⟨.hbm, 53, rfl⟩
abbrev main_c_11 : Ref sig .tc := ⟨.hbm, 54, rfl⟩
abbrev main_v36 : Ref sig .tc := ⟨.hbm, 55, rfl⟩
abbrev main_v37 : Ref sig .tc := ⟨.hbm, 56, rfl⟩
abbrev main_c_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_c_14 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_v46 : Ref sig .tc := ⟨.hbm, 69, rfl⟩
abbrev main_v47 : Ref sig .tc := ⟨.hbm, 70, rfl⟩
abbrev main_c_16 : Ref sig .tc := ⟨.hbm, 71, rfl⟩
abbrev main_v48 : Ref sig .tc := ⟨.hbm, 72, rfl⟩
abbrev main_v49 : Ref sig .tc := ⟨.hbm, 73, rfl⟩
abbrev main_c_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_18 : Ref sig .tc := ⟨.hbm, 83, rfl⟩
abbrev main_v58 : Ref sig .tc := ⟨.hbm, 84, rfl⟩
abbrev main_v59 : Ref sig .tc := ⟨.hbm, 85, rfl⟩
abbrev main_c_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_20 : Ref sig .tc := ⟨.hbm, 90, rfl⟩
abbrev main_v63 : Ref sig .tc := ⟨.hbm, 91, rfl⟩
abbrev main_v64 : Ref sig .tc := ⟨.hbm, 92, rfl⟩
abbrev main_c_21 : Ref sig .tc := ⟨.hbm, 93, rfl⟩
abbrev main_v65 : Ref sig .tc := ⟨.hbm, 94, rfl⟩
abbrev main_v66 : Ref sig .tc := ⟨.hbm, 95, rfl⟩
abbrev main_c_22 : Ref sig .tc := ⟨.hbm, 96, rfl⟩
abbrev main_v67 : Ref sig .tc := ⟨.hbm, 97, rfl⟩
abbrev main_v68 : Ref sig .tc := ⟨.hbm, 98, rfl⟩
abbrev main_c_23 : Ref sig .tc := ⟨.hbm, 99, rfl⟩
abbrev main_v69 : Ref sig .tc := ⟨.hbm, 100, rfl⟩
abbrev main_v70 : Ref sig .tc := ⟨.hbm, 101, rfl⟩
abbrev main_c_24 : Ref sig .tc := ⟨.hbm, 102, rfl⟩
abbrev main_v71 : Ref sig .tc := ⟨.hbm, 103, rfl⟩
abbrev main_v72 : Ref sig .tc := ⟨.hbm, 104, rfl⟩
abbrev main_c_25 : Ref sig .tc := ⟨.hbm, 105, rfl⟩
abbrev main_v73 : Ref sig .tc := ⟨.hbm, 106, rfl⟩
abbrev main_v74 : Ref sig .tc := ⟨.hbm, 107, rfl⟩
abbrev main_c_26 : Ref sig .tc := ⟨.hbm, 108, rfl⟩
abbrev main_v75 : Ref sig .tc := ⟨.hbm, 109, rfl⟩
abbrev main_v76 : Ref sig .tc := ⟨.hbm, 110, rfl⟩
abbrev main_c_27 : Ref sig .tc := ⟨.hbm, 111, rfl⟩
abbrev main_v77 : Ref sig .tc := ⟨.hbm, 112, rfl⟩
abbrev main_v78 : Ref sig .tc := ⟨.hbm, 113, rfl⟩
abbrev main_c_28 : Ref sig .tc := ⟨.hbm, 114, rfl⟩
abbrev main_v79 : Ref sig .tc := ⟨.hbm, 115, rfl⟩
abbrev main_v80 : Ref sig .tc := ⟨.hbm, 116, rfl⟩
abbrev main_c_29 : Ref sig .tc := ⟨.hbm, 117, rfl⟩
abbrev main_v81 : Ref sig .tc := ⟨.hbm, 118, rfl⟩
abbrev main_v82 : Ref sig .tc := ⟨.hbm, 119, rfl⟩
abbrev main_c_30 : Ref sig .tc := ⟨.hbm, 120, rfl⟩
abbrev main_v83 : Ref sig .tc := ⟨.hbm, 121, rfl⟩
abbrev main_v84 : Ref sig .tc := ⟨.hbm, 122, rfl⟩
abbrev main_c_31 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_32 : Ref sig .tc := ⟨.hbm, 128, rfl⟩
abbrev main_v89 : Ref sig .tc := ⟨.hbm, 129, rfl⟩
abbrev main_v90 : Ref sig .tc := ⟨.hbm, 130, rfl⟩
abbrev main_c_33 : Ref sig .tc := ⟨.hbm, 131, rfl⟩
abbrev main_v91 : Ref sig .tc := ⟨.hbm, 132, rfl⟩
abbrev main_v92 : Ref sig .tc := ⟨.hbm, 133, rfl⟩
abbrev main_c_34 : Ref sig .tc := ⟨.hbm, 134, rfl⟩
abbrev main_v93 : Ref sig .tc := ⟨.hbm, 135, rfl⟩
abbrev main_v94 : Ref sig .tc := ⟨.hbm, 136, rfl⟩
abbrev main_c_35 : Ref sig .tc := ⟨.hbm, 137, rfl⟩
abbrev main_v95 : Ref sig .tc := ⟨.hbm, 138, rfl⟩
abbrev main_v96 : Ref sig .tc := ⟨.hbm, 139, rfl⟩
abbrev main_c_36 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_37 : Ref sig .tc := ⟨.hbm, 150, rfl⟩
abbrev main_v106 : Ref sig .tc := ⟨.hbm, 151, rfl⟩
abbrev main_v107 : Ref sig .tc := ⟨.hbm, 152, rfl⟩
abbrev main_c_38 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_39 : Ref sig .tc := ⟨.hbm, 157, rfl⟩
abbrev main_v111 : Ref sig .tc := ⟨.hbm, 158, rfl⟩
abbrev main_v112 : Ref sig .tc := ⟨.hbm, 159, rfl⟩
abbrev main_c_40 : Ref sig .tc := ⟨.hbm, 160, rfl⟩
abbrev main_v113 : Ref sig .tc := ⟨.hbm, 161, rfl⟩
abbrev main_v114 : Ref sig .tc := ⟨.hbm, 162, rfl⟩
abbrev main_c_41 : Ref sig .tc := ⟨.hbm, 163, rfl⟩
abbrev main_v115 : Ref sig .tc := ⟨.hbm, 164, rfl⟩
abbrev main_v116 : Ref sig .tc := ⟨.hbm, 165, rfl⟩
abbrev main_c_42 : Ref sig .tc := ⟨.hbm, 166, rfl⟩
abbrev main_v117 : Ref sig .tc := ⟨.hbm, 167, rfl⟩
abbrev main_v118 : Ref sig .tc := ⟨.hbm, 168, rfl⟩
abbrev main_c_43 : Ref sig .tc := ⟨.hbm, 169, rfl⟩
abbrev main_v119 : Ref sig .tc := ⟨.hbm, 170, rfl⟩
abbrev main_v120 : Ref sig .tc := ⟨.hbm, 171, rfl⟩
abbrev main_c_44 : Ref sig .tc := ⟨.hbm, 172, rfl⟩
abbrev main_v121 : Ref sig .tc := ⟨.hbm, 173, rfl⟩
abbrev main_v122 : Ref sig .tc := ⟨.hbm, 174, rfl⟩
abbrev main_c_45 : Ref sig .tc := ⟨.hbm, 175, rfl⟩
abbrev main_v123 : Ref sig .tc := ⟨.hbm, 176, rfl⟩
abbrev main_v124 : Ref sig .tc := ⟨.hbm, 177, rfl⟩
abbrev main_c_46 : Ref sig .tc := ⟨.hbm, 178, rfl⟩
abbrev main_v125 : Ref sig .tc := ⟨.hbm, 179, rfl⟩
abbrev main_v126 : Ref sig .tc := ⟨.hbm, 180, rfl⟩
abbrev main_c_47 : Ref sig .tc := ⟨.hbm, 181, rfl⟩
abbrev main_v127 : Ref sig .tc := ⟨.hbm, 182, rfl⟩
abbrev main_v128 : Ref sig .tc := ⟨.hbm, 183, rfl⟩
abbrev main_c_48 : Ref sig .tc := ⟨.hbm, 184, rfl⟩
abbrev main_v129 : Ref sig .tc := ⟨.hbm, 185, rfl⟩
abbrev main_v130 : Ref sig .tc := ⟨.hbm, 186, rfl⟩
abbrev main_c_49 : Ref sig .tc := ⟨.hbm, 187, rfl⟩
abbrev main_v131 : Ref sig .tc := ⟨.hbm, 188, rfl⟩
abbrev main_v132 : Ref sig .tc := ⟨.hbm, 189, rfl⟩
abbrev main_c_50 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_c_51 : Ref sig .tc := ⟨.hbm, 195, rfl⟩
abbrev main_v137 : Ref sig .tc := ⟨.hbm, 196, rfl⟩
abbrev main_v138 : Ref sig .tc := ⟨.hbm, 197, rfl⟩
abbrev main_c_52 : Ref sig .tc := ⟨.hbm, 198, rfl⟩
abbrev main_v139 : Ref sig .tc := ⟨.hbm, 199, rfl⟩
abbrev main_v140 : Ref sig .tc := ⟨.hbm, 200, rfl⟩
abbrev main_c_53 : Ref sig .tc := ⟨.hbm, 201, rfl⟩
abbrev main_v141 : Ref sig .tc := ⟨.hbm, 202, rfl⟩
abbrev main_v142 : Ref sig .tc := ⟨.hbm, 203, rfl⟩
abbrev main_c_54 : Ref sig .tc := ⟨.hbm, 204, rfl⟩
abbrev main_v143 : Ref sig .tc := ⟨.hbm, 205, rfl⟩
abbrev main_v144 : Ref sig .tc := ⟨.hbm, 206, rfl⟩
abbrev main_c_55 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_c_56 : Ref sig .tc := ⟨.hbm, 217, rfl⟩
abbrev main_v154 : Ref sig .tc := ⟨.hbm, 218, rfl⟩
abbrev main_v155 : Ref sig .tc := ⟨.hbm, 219, rfl⟩
abbrev main_c_57 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_c_58 : Ref sig .tc := ⟨.hbm, 224, rfl⟩
abbrev main_v159 : Ref sig .tc := ⟨.hbm, 225, rfl⟩
abbrev main_v160 : Ref sig .tc := ⟨.hbm, 226, rfl⟩
abbrev main_c_59 : Ref sig .tc := ⟨.hbm, 227, rfl⟩
abbrev main_v161 : Ref sig .tc := ⟨.hbm, 228, rfl⟩
abbrev main_v162 : Ref sig .tc := ⟨.hbm, 229, rfl⟩
abbrev main_c_60 : Ref sig .tc := ⟨.hbm, 230, rfl⟩
abbrev main_v163 : Ref sig .tc := ⟨.hbm, 231, rfl⟩
abbrev main_v164 : Ref sig .tc := ⟨.hbm, 232, rfl⟩
abbrev main_c_61 : Ref sig .tc := ⟨.hbm, 233, rfl⟩
abbrev main_v165 : Ref sig .tc := ⟨.hbm, 234, rfl⟩
abbrev main_v166 : Ref sig .tc := ⟨.hbm, 235, rfl⟩
abbrev main_c_62 : Ref sig .tc := ⟨.hbm, 236, rfl⟩
abbrev main_v167 : Ref sig .tc := ⟨.hbm, 237, rfl⟩
abbrev main_v168 : Ref sig .tc := ⟨.hbm, 238, rfl⟩
abbrev main_c_63 : Ref sig .tc := ⟨.hbm, 239, rfl⟩
abbrev main_v169 : Ref sig .tc := ⟨.hbm, 240, rfl⟩
abbrev main_v170 : Ref sig .tc := ⟨.hbm, 241, rfl⟩
abbrev main_c_64 : Ref sig .tc := ⟨.hbm, 242, rfl⟩
abbrev main_v171 : Ref sig .tc := ⟨.hbm, 243, rfl⟩
abbrev main_v172 : Ref sig .tc := ⟨.hbm, 244, rfl⟩
abbrev main_c_65 : Ref sig .tc := ⟨.hbm, 245, rfl⟩
abbrev main_v173 : Ref sig .tc := ⟨.hbm, 246, rfl⟩
abbrev main_v174 : Ref sig .tc := ⟨.hbm, 247, rfl⟩
abbrev main_c_66 : Ref sig .tc := ⟨.hbm, 248, rfl⟩
abbrev main_v175 : Ref sig .tc := ⟨.hbm, 249, rfl⟩
abbrev main_v176 : Ref sig .tc := ⟨.hbm, 250, rfl⟩
abbrev main_c_67 : Ref sig .tc := ⟨.hbm, 251, rfl⟩
abbrev main_v177 : Ref sig .tc := ⟨.hbm, 252, rfl⟩
abbrev main_v178 : Ref sig .tc := ⟨.hbm, 253, rfl⟩
abbrev main_c_68 : Ref sig .tc := ⟨.hbm, 254, rfl⟩
abbrev main_v179 : Ref sig .tc := ⟨.hbm, 255, rfl⟩
abbrev main_v180 : Ref sig .tc := ⟨.hbm, 256, rfl⟩
abbrev main_c_69 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_c_70 : Ref sig .tc := ⟨.hbm, 262, rfl⟩
abbrev main_v185 : Ref sig .tc := ⟨.hbm, 263, rfl⟩
abbrev main_v186 : Ref sig .tc := ⟨.hbm, 264, rfl⟩
abbrev main_c_71 : Ref sig .tc := ⟨.hbm, 265, rfl⟩
abbrev main_v187 : Ref sig .tc := ⟨.hbm, 266, rfl⟩
abbrev main_v188 : Ref sig .tc := ⟨.hbm, 267, rfl⟩
abbrev main_c_72 : Ref sig .tc := ⟨.hbm, 268, rfl⟩
abbrev main_v189 : Ref sig .tc := ⟨.hbm, 269, rfl⟩
abbrev main_v190 : Ref sig .tc := ⟨.hbm, 270, rfl⟩
abbrev main_c_73 : Ref sig .tc := ⟨.hbm, 271, rfl⟩
abbrev main_v191 : Ref sig .tc := ⟨.hbm, 272, rfl⟩
abbrev main_v192 : Ref sig .tc := ⟨.hbm, 273, rfl⟩
abbrev main_c_74 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_c_75 : Ref sig .tc := ⟨.hbm, 284, rfl⟩
abbrev main_v202 : Ref sig .tc := ⟨.hbm, 285, rfl⟩
abbrev main_v203 : Ref sig .tc := ⟨.hbm, 286, rfl⟩
abbrev main_c_76 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_c_77 : Ref sig .tc := ⟨.hbm, 291, rfl⟩
abbrev main_v207 : Ref sig .tc := ⟨.hbm, 292, rfl⟩
abbrev main_v208 : Ref sig .tc := ⟨.hbm, 293, rfl⟩
abbrev main_c_78 : Ref sig .tc := ⟨.hbm, 294, rfl⟩
abbrev main_v209 : Ref sig .tc := ⟨.hbm, 295, rfl⟩
abbrev main_v210 : Ref sig .tc := ⟨.hbm, 296, rfl⟩
abbrev main_c_79 : Ref sig .tc := ⟨.hbm, 297, rfl⟩
abbrev main_v211 : Ref sig .tc := ⟨.hbm, 298, rfl⟩
abbrev main_v212 : Ref sig .tc := ⟨.hbm, 299, rfl⟩
abbrev main_c_80 : Ref sig .tc := ⟨.hbm, 300, rfl⟩
abbrev main_v213 : Ref sig .tc := ⟨.hbm, 301, rfl⟩
abbrev main_v214 : Ref sig .tc := ⟨.hbm, 302, rfl⟩
abbrev main_c_81 : Ref sig .tc := ⟨.hbm, 303, rfl⟩
abbrev main_v215 : Ref sig .tc := ⟨.hbm, 304, rfl⟩
abbrev main_v216 : Ref sig .tc := ⟨.hbm, 305, rfl⟩
abbrev main_c_82 : Ref sig .tc := ⟨.hbm, 306, rfl⟩
abbrev main_v217 : Ref sig .tc := ⟨.hbm, 307, rfl⟩
abbrev main_v218 : Ref sig .tc := ⟨.hbm, 308, rfl⟩
abbrev main_c_83 : Ref sig .tc := ⟨.hbm, 309, rfl⟩
abbrev main_v219 : Ref sig .tc := ⟨.hbm, 310, rfl⟩
abbrev main_v220 : Ref sig .tc := ⟨.hbm, 311, rfl⟩
abbrev main_c_84 : Ref sig .tc := ⟨.hbm, 312, rfl⟩
abbrev main_v221 : Ref sig .tc := ⟨.hbm, 313, rfl⟩
abbrev main_v222 : Ref sig .tc := ⟨.hbm, 314, rfl⟩
abbrev main_c_85 : Ref sig .tc := ⟨.hbm, 315, rfl⟩
abbrev main_v223 : Ref sig .tc := ⟨.hbm, 316, rfl⟩
abbrev main_v224 : Ref sig .tc := ⟨.hbm, 317, rfl⟩
abbrev main_c_86 : Ref sig .tc := ⟨.hbm, 318, rfl⟩
abbrev main_v225 : Ref sig .tc := ⟨.hbm, 319, rfl⟩
abbrev main_v226 : Ref sig .tc := ⟨.hbm, 320, rfl⟩
abbrev main_c_87 : Ref sig .tc := ⟨.hbm, 321, rfl⟩
abbrev main_v227 : Ref sig .tc := ⟨.hbm, 322, rfl⟩
abbrev main_v228 : Ref sig .tc := ⟨.hbm, 323, rfl⟩
abbrev main_c_88 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_c_89 : Ref sig .tc := ⟨.hbm, 329, rfl⟩
abbrev main_v233 : Ref sig .tc := ⟨.hbm, 330, rfl⟩
abbrev main_v234 : Ref sig .tc := ⟨.hbm, 331, rfl⟩
abbrev main_c_90 : Ref sig .tc := ⟨.hbm, 332, rfl⟩
abbrev main_v235 : Ref sig .tc := ⟨.hbm, 333, rfl⟩
abbrev main_v236 : Ref sig .tc := ⟨.hbm, 334, rfl⟩
abbrev main_c_91 : Ref sig .tc := ⟨.hbm, 335, rfl⟩
abbrev main_v237 : Ref sig .tc := ⟨.hbm, 336, rfl⟩
abbrev main_v238 : Ref sig .tc := ⟨.hbm, 337, rfl⟩
abbrev main_c_92 : Ref sig .tc := ⟨.hbm, 338, rfl⟩
abbrev main_v239 : Ref sig .tc := ⟨.hbm, 339, rfl⟩
abbrev main_v240 : Ref sig .tc := ⟨.hbm, 340, rfl⟩
abbrev main_c_93 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_c_94 : Ref sig .tc := ⟨.hbm, 351, rfl⟩
abbrev main_v250 : Ref sig .tc := ⟨.hbm, 352, rfl⟩
abbrev main_v251 : Ref sig .tc := ⟨.hbm, 353, rfl⟩
abbrev main_c_95 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_c_96 : Ref sig .tc := ⟨.hbm, 358, rfl⟩
abbrev main_v255 : Ref sig .tc := ⟨.hbm, 359, rfl⟩
abbrev main_v256 : Ref sig .tc := ⟨.hbm, 360, rfl⟩
abbrev main_c_97 : Ref sig .tc := ⟨.hbm, 361, rfl⟩
abbrev main_v257 : Ref sig .tc := ⟨.hbm, 362, rfl⟩
abbrev main_v258 : Ref sig .tc := ⟨.hbm, 363, rfl⟩
abbrev main_c_98 : Ref sig .tc := ⟨.hbm, 364, rfl⟩
abbrev main_v259 : Ref sig .tc := ⟨.hbm, 365, rfl⟩
abbrev main_v260 : Ref sig .tc := ⟨.hbm, 366, rfl⟩
abbrev main_c_99 : Ref sig .tc := ⟨.hbm, 367, rfl⟩
abbrev main_v261 : Ref sig .tc := ⟨.hbm, 368, rfl⟩
abbrev main_v262 : Ref sig .tc := ⟨.hbm, 369, rfl⟩
abbrev main_c_100 : Ref sig .tc := ⟨.hbm, 370, rfl⟩
abbrev main_v263 : Ref sig .tc := ⟨.hbm, 371, rfl⟩
abbrev main_v264 : Ref sig .tc := ⟨.hbm, 372, rfl⟩
abbrev main_c_101 : Ref sig .tc := ⟨.hbm, 373, rfl⟩
abbrev main_v265 : Ref sig .tc := ⟨.hbm, 374, rfl⟩
abbrev main_v266 : Ref sig .tc := ⟨.hbm, 375, rfl⟩
abbrev main_c_102 : Ref sig .tc := ⟨.hbm, 376, rfl⟩
abbrev main_v267 : Ref sig .tc := ⟨.hbm, 377, rfl⟩
abbrev main_v268 : Ref sig .tc := ⟨.hbm, 378, rfl⟩
abbrev main_c_103 : Ref sig .tc := ⟨.hbm, 379, rfl⟩
abbrev main_v269 : Ref sig .tc := ⟨.hbm, 380, rfl⟩
abbrev main_v270 : Ref sig .tc := ⟨.hbm, 381, rfl⟩
abbrev main_c_104 : Ref sig .tc := ⟨.hbm, 382, rfl⟩
abbrev main_v271 : Ref sig .tc := ⟨.hbm, 383, rfl⟩
abbrev main_v272 : Ref sig .tc := ⟨.hbm, 384, rfl⟩
abbrev main_c_105 : Ref sig .tc := ⟨.hbm, 385, rfl⟩
abbrev main_v273 : Ref sig .tc := ⟨.hbm, 386, rfl⟩
abbrev main_v274 : Ref sig .tc := ⟨.hbm, 387, rfl⟩
abbrev main_c_106 : Ref sig .tc := ⟨.hbm, 388, rfl⟩
abbrev main_v275 : Ref sig .tc := ⟨.hbm, 389, rfl⟩
abbrev main_v276 : Ref sig .tc := ⟨.hbm, 390, rfl⟩
abbrev main_c_107 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_c_108 : Ref sig .tc := ⟨.hbm, 396, rfl⟩
abbrev main_v281 : Ref sig .tc := ⟨.hbm, 397, rfl⟩
abbrev main_v282 : Ref sig .tc := ⟨.hbm, 398, rfl⟩
abbrev main_c_109 : Ref sig .tc := ⟨.hbm, 399, rfl⟩
abbrev main_v283 : Ref sig .tc := ⟨.hbm, 400, rfl⟩
abbrev main_v284 : Ref sig .tc := ⟨.hbm, 401, rfl⟩
abbrev main_c_110 : Ref sig .tc := ⟨.hbm, 402, rfl⟩
abbrev main_v285 : Ref sig .tc := ⟨.hbm, 403, rfl⟩
abbrev main_v286 : Ref sig .tc := ⟨.hbm, 404, rfl⟩
abbrev main_c_111 : Ref sig .tc := ⟨.hbm, 405, rfl⟩
abbrev main_v287 : Ref sig .tc := ⟨.hbm, 406, rfl⟩
abbrev main_v288 : Ref sig .tc := ⟨.hbm, 407, rfl⟩
abbrev main_c_112 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_v293 : Ref sig .tc := ⟨.hbm, 413, rfl⟩
abbrev main_v294 : Ref sig .tc := ⟨.hbm, 414, rfl⟩
abbrev main_v295 : Ref sig .tc := ⟨.hbm, 415, rfl⟩
abbrev main_v296 : Ref sig .tc := ⟨.hbm, 416, rfl⟩
abbrev main_v297 : Ref sig .tc := ⟨.hbm, 417, rfl⟩
abbrev main_c_113 : Ref sig .tc := ⟨.hbm, 418, rfl⟩
abbrev main_v298 : Ref sig .tc := ⟨.hbm, 419, rfl⟩
abbrev main_v299 : Ref sig .tc := ⟨.hbm, 420, rfl⟩
abbrev main_c_114 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_c_115 : Ref sig .tc := ⟨.hbm, 425, rfl⟩
abbrev main_v303 : Ref sig .tc := ⟨.hbm, 426, rfl⟩
abbrev main_v304 : Ref sig .tc := ⟨.hbm, 427, rfl⟩
abbrev main_c_116 : Ref sig .tc := ⟨.hbm, 428, rfl⟩
abbrev main_v305 : Ref sig .tc := ⟨.hbm, 429, rfl⟩
abbrev main_v306 : Ref sig .tc := ⟨.hbm, 430, rfl⟩
abbrev main_c_117 : Ref sig .tc := ⟨.hbm, 431, rfl⟩
abbrev main_v307 : Ref sig .tc := ⟨.hbm, 432, rfl⟩
abbrev main_v308 : Ref sig .tc := ⟨.hbm, 433, rfl⟩
abbrev main_c_118 : Ref sig .tc := ⟨.hbm, 434, rfl⟩
abbrev main_v309 : Ref sig .tc := ⟨.hbm, 435, rfl⟩
abbrev main_v310 : Ref sig .tc := ⟨.hbm, 436, rfl⟩
abbrev main_c_119 : Ref sig .tc := ⟨.hbm, 437, rfl⟩
abbrev main_v311 : Ref sig .tc := ⟨.hbm, 438, rfl⟩
abbrev main_v312 : Ref sig .tc := ⟨.hbm, 439, rfl⟩
abbrev main_c_120 : Ref sig .tc := ⟨.hbm, 440, rfl⟩
abbrev main_v313 : Ref sig .tc := ⟨.hbm, 441, rfl⟩
abbrev main_v314 : Ref sig .tc := ⟨.hbm, 442, rfl⟩
abbrev main_c_121 : Ref sig .tc := ⟨.hbm, 443, rfl⟩
abbrev main_v315 : Ref sig .tc := ⟨.hbm, 444, rfl⟩
abbrev main_v316 : Ref sig .tc := ⟨.hbm, 445, rfl⟩
abbrev main_c_122 : Ref sig .tc := ⟨.hbm, 446, rfl⟩
abbrev main_v317 : Ref sig .tc := ⟨.hbm, 447, rfl⟩
abbrev main_v318 : Ref sig .tc := ⟨.hbm, 448, rfl⟩
abbrev main_c_123 : Ref sig .tc := ⟨.hbm, 449, rfl⟩
abbrev main_v319 : Ref sig .tc := ⟨.hbm, 450, rfl⟩
abbrev main_v320 : Ref sig .tc := ⟨.hbm, 451, rfl⟩
abbrev main_c_124 : Ref sig .tc := ⟨.hbm, 452, rfl⟩
abbrev main_v321 : Ref sig .tc := ⟨.hbm, 453, rfl⟩
abbrev main_v322 : Ref sig .tc := ⟨.hbm, 454, rfl⟩
abbrev main_c_125 : Ref sig .tc := ⟨.hbm, 455, rfl⟩
abbrev main_v323 : Ref sig .tc := ⟨.hbm, 456, rfl⟩
abbrev main_v324 : Ref sig .tc := ⟨.hbm, 457, rfl⟩
abbrev main_c_126 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_v328 : Ref sig .tc := ⟨.hbm, 462, rfl⟩
abbrev main_c_127 : Ref sig .tc := ⟨.hbm, 463, rfl⟩
abbrev main_v329 : Ref sig .tc := ⟨.hbm, 464, rfl⟩
abbrev main_v330 : Ref sig .tc := ⟨.hbm, 465, rfl⟩
abbrev main_c_128 : Ref sig .tc := ⟨.hbm, 466, rfl⟩
abbrev main_v331 : Ref sig .tc := ⟨.hbm, 467, rfl⟩
abbrev main_v332 : Ref sig .tc := ⟨.hbm, 468, rfl⟩
abbrev main_c_129 : Ref sig .tc := ⟨.hbm, 469, rfl⟩
abbrev main_v333 : Ref sig .tc := ⟨.hbm, 470, rfl⟩
abbrev main_v334 : Ref sig .tc := ⟨.hbm, 471, rfl⟩
abbrev main_c_130 : Ref sig .tc := ⟨.hbm, 472, rfl⟩
abbrev main_v335 : Ref sig .tc := ⟨.hbm, 473, rfl⟩
abbrev main_v336 : Ref sig .tc := ⟨.hbm, 474, rfl⟩
abbrev main_c_131 : Ref sig .tc := ⟨.hbm, 475, rfl⟩
abbrev main_v337 : Ref sig .tc := ⟨.hbm, 476, rfl⟩
abbrev main_v338 : Ref sig .tc := ⟨.hbm, 477, rfl⟩
abbrev main_v339 : Ref sig .tc := ⟨.hbm, 478, rfl⟩
abbrev main_v340 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_v344 : Ref sig .tc := ⟨.hbm, 483, rfl⟩
abbrev main_v345 : Ref sig .tc := ⟨.hbm, 484, rfl⟩
abbrev main_c_132 : Ref sig .tc := ⟨.hbm, 485, rfl⟩
abbrev main_v346 : Ref sig .tc := ⟨.hbm, 486, rfl⟩
abbrev main_v347 : Ref sig .tc := ⟨.hbm, 487, rfl⟩
abbrev main_c_133 : Ref sig .tc := ⟨.hbm, 488, rfl⟩
abbrev main_v348 : Ref sig .tc := ⟨.hbm, 489, rfl⟩
abbrev main_v349 : Ref sig .tc := ⟨.hbm, 490, rfl⟩
abbrev main_v350 : Ref sig .tc := ⟨.hbm, 491, rfl⟩
abbrev main_c_134 : Ref sig .tc := ⟨.hbm, 492, rfl⟩
abbrev main_v351 : Ref sig .tc := ⟨.hbm, 493, rfl⟩
abbrev main_v352 : Ref sig .tc := ⟨.hbm, 494, rfl⟩
abbrev main_c_135 : Ref sig .tc := ⟨.hbm, 495, rfl⟩
abbrev main_v353 : Ref sig .tc := ⟨.hbm, 496, rfl⟩
abbrev main_v354 : Ref sig .tc := ⟨.hbm, 497, rfl⟩
abbrev main_c_136 : Ref sig .tc := ⟨.hbm, 498, rfl⟩
abbrev main_v355 : Ref sig .tc := ⟨.hbm, 499, rfl⟩
abbrev main_v356 : Ref sig .tc := ⟨.hbm, 500, rfl⟩
abbrev main_c_137 : Ref sig .tc := ⟨.hbm, 501, rfl⟩
abbrev main_v357 : Ref sig .tc := ⟨.hbm, 502, rfl⟩
abbrev main_v358 : Ref sig .tc := ⟨.hbm, 503, rfl⟩
abbrev main_c_138 : Ref sig .tc := ⟨.hbm, 504, rfl⟩
abbrev main_v359 : Ref sig .tc := ⟨.hbm, 505, rfl⟩
abbrev main_v360 : Ref sig .tc := ⟨.hbm, 506, rfl⟩
abbrev main_c_139 : Ref sig .tc := ⟨.hbm, 507, rfl⟩
abbrev main_v361 : Ref sig .tc := ⟨.hbm, 508, rfl⟩
abbrev main_v362 : Ref sig .tc := ⟨.hbm, 509, rfl⟩
abbrev main_c_140 : Ref sig .tc := ⟨.hbm, 510, rfl⟩
abbrev main_v363 : Ref sig .tc := ⟨.hbm, 511, rfl⟩
abbrev main_v364 : Ref sig .tc := ⟨.hbm, 512, rfl⟩
abbrev main_c_141 : Ref sig .tc := ⟨.hbm, 513, rfl⟩
abbrev main_v365 : Ref sig .tc := ⟨.hbm, 514, rfl⟩
abbrev main_v366 : Ref sig .tc := ⟨.hbm, 515, rfl⟩
abbrev main_c_142 : Ref sig .tc := ⟨.hbm, 516, rfl⟩
abbrev main_v367 : Ref sig .tc := ⟨.hbm, 517, rfl⟩
abbrev main_v368 : Ref sig .tc := ⟨.hbm, 518, rfl⟩
abbrev main_c_143 : Ref sig .tc := ⟨.hbm, 519, rfl⟩
abbrev main_v369 : Ref sig .tc := ⟨.hbm, 520, rfl⟩
abbrev main_v370 : Ref sig .tc := ⟨.hbm, 521, rfl⟩
abbrev main_c_144 : Ref sig .tc := ⟨.hbm, 522, rfl⟩
abbrev main_v371 : Ref sig .tc := ⟨.hbm, 523, rfl⟩
abbrev main_v372 : Ref sig .tc := ⟨.hbm, 524, rfl⟩
abbrev main_c_145 : Ref sig .tc := ⟨.hbm, 525, rfl⟩
abbrev main_v373 : Ref sig .tc := ⟨.hbm, 526, rfl⟩
abbrev main_v374 : Ref sig .tc := ⟨.hbm, 527, rfl⟩
abbrev main_v375 : Ref sig .tc := ⟨.hbm, 528, rfl⟩
abbrev main_v376 : Ref sig .tc := ⟨.hbm, 529, rfl⟩
abbrev main_c_146 : Ref sig .tc := ⟨.hbm, 530, rfl⟩
abbrev main_v377 : Ref sig .tc := ⟨.hbm, 531, rfl⟩
abbrev main_v378 : Ref sig .tc := ⟨.hbm, 532, rfl⟩
abbrev main_c_147 : Ref sig .tc := ⟨.hbm, 533, rfl⟩
abbrev main_v379 : Ref sig .tc := ⟨.hbm, 534, rfl⟩
abbrev main_v380 : Ref sig .tc := ⟨.hbm, 535, rfl⟩
abbrev main_c_148 : Ref sig .tc := ⟨.hbm, 536, rfl⟩
abbrev main_v381 : Ref sig .tc := ⟨.hbm, 537, rfl⟩
abbrev main_v382 : Ref sig .tc := ⟨.hbm, 538, rfl⟩
abbrev main_c_149 : Ref sig .tc := ⟨.hbm, 539, rfl⟩
abbrev main_v383 : Ref sig .tc := ⟨.hbm, 540, rfl⟩
abbrev main_v384 : Ref sig .tc := ⟨.hbm, 541, rfl⟩
abbrev main_c_150 : Ref sig .tc := ⟨.hbm, 542, rfl⟩
abbrev main_v385 : Ref sig .tc := ⟨.hbm, 543, rfl⟩
abbrev main_v386 : Ref sig .tc := ⟨.hbm, 544, rfl⟩
abbrev main_v387 : Ref sig .tc := ⟨.hbm, 545, rfl⟩
abbrev main_v388 : Ref sig .tc := ⟨.hbm, 546, rfl⟩
abbrev main_v389 : Ref sig .tc := ⟨.hbm, 547, rfl⟩
abbrev main_v390 : Ref sig .tc := ⟨.hbm, 548, rfl⟩
abbrev main_v391 : Ref sig .tc := ⟨.hbm, 549, rfl⟩
abbrev main_v392 : Ref sig .tc := ⟨.hbm, 550, rfl⟩
abbrev main_v393 : Ref sig .tc := ⟨.hbm, 551, rfl⟩
abbrev main_v394 : Ref sig .tc := ⟨.hbm, 552, rfl⟩
abbrev main_v395 : Ref sig .tc := ⟨.hbm, 553, rfl⟩
abbrev main_v396 : Ref sig .tc := ⟨.hbm, 554, rfl⟩
abbrev main_v397 : Ref sig .tc := ⟨.hbm, 555, rfl⟩
abbrev main_v398 : Ref sig .tc := ⟨.hbm, 556, rfl⟩
abbrev main_cst : Ref sig .tc := ⟨.hbm, 557, rfl⟩
abbrev main_v399 : Ref sig .tc := ⟨.hbm, 558, rfl⟩
abbrev main_v400 : Ref sig .tc := ⟨.hbm, 559, rfl⟩
abbrev main_v401 : Ref sig .tc := ⟨.hbm, 560, rfl⟩
abbrev main_v402 : Ref sig .tc := ⟨.hbm, 561, rfl⟩
abbrev main_v403 : Ref sig .tc := ⟨.hbm, 562, rfl⟩
abbrev main_v404 : Ref sig .tc := ⟨.hbm, 563, rfl⟩
abbrev main_v405 : Ref sig .tc := ⟨.hbm, 564, rfl⟩

abbrev nD : Nat := 1
abbrev τ : Topo := Topo.v7x

variable {F : FTy → Type} [FloatOps F]
-- ==== Proof.Hadamard.lean ====
/- The Hadamard matrix of signs, and the two ways the certificate's programs multiply by it. The entry at (i, j) is
   `1 - 2 * parity(popcount(i & j))`. The reference multiplies a row of 1024 values by the whole 1024 x 1024 matrix. The kernel
   splits the row in four parts of 256, adds and subtracts the parts as the 4 x 4 matrix says, and multiplies each combination by
   the 256 x 256 matrix, after splitting every value in three summands. Over the reals the two agree (`sum_1024`), and on finite
   values the extended reals' operations are the reals' (`split3_sum`). -/
module

public import Idealize.ShloMosaic.Lib.ValueIdx
public import Idealize.ShloMosaic.Lib.MatmulPlain

@[expose] public section

noncomputable section

namespace Cert.Hadamard

open Idealize.ShloMosaic Idealize.ShloMosaic.ValueIdx

/-! ## The signs -/

/-- The sign of a word: one minus twice the parity of its number of one bits, as the programs compute it. -/
def sgnWord (w : BitVec 32) : BitVec 32 := IntOp.subi 1#32 (IntOp.muli 2#32 (IntOp.andi (IntOp.ctpop w) 1#32))

/-- The matrix entry at (i, j), a real. -/
def had (i j : Nat) : ℝ := ((sgnWord (IntOp.andi (BitVec.ofNat 32 i) (BitVec.ofNat 32 j))).toInt : ℝ)

/-- A word's sign is the sign of its bits from 8 up times the sign of its low 8 bits (ten-bit words, by evaluation). -/
theorem sgnWord_split : ∀ (u : Fin 4) (v : Fin 256),
    (sgnWord (BitVec.ofNat 32 (256 * u.val + v.val))).toInt
      = (sgnWord (BitVec.ofNat 32 u.val)).toInt * (sgnWord (BitVec.ofNat 32 v.val)).toInt := by
  decide +kernel

/-- The conjunction of two words below 1024, part by part. -/
theorem and_split (p q r s : Nat) (hr : r < 256) (hs : s < 256) :
    (256 * p + r) &&& (256 * q + s) = 256 * (p &&& q) + (r &&& s) := by
  have e1 : ((256 * p + r) &&& (256 * q + s)) / 2 ^ 8 = p &&& q := by
    rw [Nat.and_div_two_pow]; congr 1 <;> omega
  have e2 : ((256 * p + r) &&& (256 * q + s)) % 2 ^ 8 = r &&& s := by
    rw [Nat.and_mod_two_pow]; congr 1 <;> omega
  have := Nat.div_add_mod ((256 * p + r) &&& (256 * q + s)) (2 ^ 8)
  rw [e1, e2] at this
  exact this.symm

theorem ofNat_and (a b : Nat) : IntOp.andi (BitVec.ofNat 32 a) (BitVec.ofNat 32 b) = BitVec.ofNat 32 (a &&& b) := by
  show BitVec.ofNat 32 a &&& BitVec.ofNat 32 b = _
  exact BitVec.ofNat_and.symm

/-- The 1024-matrix is the 4-matrix of copies of the 256-matrix. -/
theorem had_split (p q : Fin 4) (r s : Fin 256) :
    had (256 * p.val + r.val) (256 * q.val + s.val) = had p.val q.val * had r.val s.val := by
  have hpq : p.val &&& q.val < 4 := Nat.and_lt_two_pow (n := 2) _ (by omega)
  have hrs : r.val &&& s.val < 256 := Nat.and_lt_two_pow (n := 8) _ (by omega)
  unfold had
  rw [ofNat_and, ofNat_and, ofNat_and, and_split _ _ _ _ r.isLt s.isLt]
  have := sgnWord_split ⟨_, hpq⟩ ⟨_, hrs⟩
  dsimp only at this
  rw [this]; push_cast; rfl

/-- The 4-matrix's signs, entry by entry. -/
theorem had4 (p q : Fin 4) : had p.val q.val =
    ((![![1, 1, 1, 1], ![1, -1, 1, -1], ![1, 1, -1, -1], ![1, -1, -1, 1]] : Fin 4 → Fin 4 → ℤ) p q : ℝ) := by
  unfold had
  congr 1
  revert p q
  decide +kernel

/-! ## The sum over 1024 as four sums over 256 -/

/-- The part q, position i of a row of 1024. -/
abbrev at4 (q : Fin 4) (i : Fin 256) : Fin 1024 := ⟨256 * q.val + i.val, by omega⟩

theorem sum_at4 {M : Type*} [AddCommMonoid M] (f : Fin 1024 → M) :
    ∑ n, f n = ∑ i : Fin 256, ∑ q : Fin 4, f (at4 q i) := by
  rw [Finset.sum_comm, ← Fintype.sum_prod_type' (f := fun q i => f (at4 q i))]
  refine (Fintype.sum_equiv (finProdFinEquiv (m := 4) (n := 256)) _ _ fun x => ?_).symm
  congr 1
  apply Fin.ext
  show 256 * x.1.val + x.2.val = x.2.val + 256 * x.1.val
  omega

/-- A row times column 256p + r of the whole matrix: the parts combined by row p of the 4-matrix, times column r of the 256-matrix. -/
theorem sum_1024 (a : Fin 1024 → ℝ) (p : Fin 4) (r : Fin 256) :
    ∑ n, a n * had n.val (256 * p.val + r.val)
      = ∑ i : Fin 256, (∑ q : Fin 4, had q.val p.val * a (at4 q i)) * had i.val r.val := by
  rw [sum_at4]
  refine Finset.sum_congr rfl fun i _ => ?_
  rw [Finset.sum_mul]
  refine Finset.sum_congr rfl fun q _ => ?_
  show a (at4 q i) * had (256 * q.val + i.val) (256 * p.val + r.val) = _
  rw [had_split]
  ring

/-! ## Finite extended reals -/

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The three products of a value split in three, added lowest first: the product itself, for finite values. -/
theorem split3_sum {n : Nat} (v h : Fin n → EReal) (a b : Fin n → ℝ) (hv : ∀ k, v k = a k) (hh : ∀ k, h k = b k) :
    (∑ k, (v k - v k - (v k - v k)) * h k) + (∑ k, (v k - v k) * h k) + (∑ k, v k * h k) = ((∑ k, a k * b k : ℝ) : EReal) := by
  have e0 : ∀ k, v k - v k = 0 := fun k => by rw [hv, ← EReal.coe_sub]; simp
  have e1 : (0 : EReal) - 0 = 0 := by simp
  simp only [e0, e1, zero_mul, Finset.sum_const_zero, zero_add]
  rw [coe_sum]
  exact Finset.sum_congr rfl fun k _ => by rw [hv, hh, EReal.coe_mul]

/-! ## The programs' constants -/

theorem ofBits_zero : Ideal.ofBits .f32 0x00000000#32 = 0 := by simp [Ideal.ofBits, Ideal.ieee]

/-- The scale both programs apply: two to the minus five. -/
theorem ofBits_scale : Ideal.ofBits .f32 0x3D000000#32 = ((1 / 32 : ℝ) : EReal) := by
  simp [Ideal.ofBits, Ideal.ieee, -EReal.coe_mul]; norm_num

/-! ## The kernel's product by the 256-matrix -/

/-- The 256-matrix as the kernel builds it. -/
abbrev IsTile (h : FVec Ideal ⟨2, ![256, 256]⟩ .bf16) : Prop := ∀ i j : Fin 256, h (ix2 i j) = (had i.val j.val : EReal)

/-- The kernel's product, split in three: its value at (t, r) for finite operands. -/
theorem split3_apply {M : Nat} (v : FVec Ideal ⟨2, ![M, 256]⟩ .f32) (h : FVec Ideal ⟨2, ![256, 256]⟩ .bf16) (hh : IsTile h)
    (hb : FTy.bits .bf16 < FTy.bits .f32) (t : Fin M) (r : Fin 256) (a : Fin 256 → ℝ) (hv : ∀ k, v (ix2 t k) = a k) :
    addf (addf
        (matmul (DotDims.plain M 256 256) none
          (truncf .bf16 (subf (subf v (extf .f32 (truncf .bf16 v hb) hb)) (extf .f32 (truncf .bf16 (subf v (extf .f32 (truncf .bf16 v hb) hb)) hb) hb)) hb)
          h (constant _ .f32 0x00000000#32))
        (matmul (DotDims.plain M 256 256) none (truncf .bf16 (subf v (extf .f32 (truncf .bf16 v hb) hb)) hb) h (constant _ .f32 0x00000000#32)))
      (matmul (DotDims.plain M 256 256) none (truncf .bf16 v hb) h (constant _ .f32 0x00000000#32)) (ix2 t r)
      = ((∑ k, a k * had k.val r.val : ℝ) : EReal) := by
  rw [addf_apply, addf_apply]
  refine (congrArg₂ (· + ·) (congrArg₂ (· + ·) (Ideal.matmul_plain_apply none _ _ _ t r) (Ideal.matmul_plain_apply none _ _ _ t r))
    (Ideal.matmul_plain_apply none _ _ _ t r)).trans ?_
  simp only [truncf_apply, extf_apply, subf_apply, constant_apply, ofBits_zero, zero_add]
  exact split3_sum (fun k => v (ix2 t k)) (fun k => h (ix2 k r)) a (fun k => had k.val r.val) hv (fun k => hh k r)

end Cert.Hadamard

end
-- ==== Proof.RotateValue.lean ====
/- The value of the rotation kernel at the ideal instance, and of its reference. Both results are `rotated`: at row t and column i,
   the sum over the column's block of 1024 inputs times signs, times the Hadamard matrix of the block, scaled by two to the minus
   five. The reference is that sum as it stands. The kernel is that sum for finite inputs: each of its four stores holds one
   quarter of a block's columns. -/
module

public import proofs.«01_k».proof.Proof.Hadamard
public import proofs.«01_k».proof.Proof.Gen.RotateIdeal.Value
public import proofs.«01_k».proof.Proof.Gen.RotateRefIdeal.Run
public import proofs.«01_k».proof.Proof.Gen.Pre_finite_inputs
public import Idealize.ShloMosaic.Lib.Pipeline.ValueKit.Point
public import Idealize.ShloMosaic.Lib.ValueIdxCoords

@[expose] public section

noncomputable section

namespace Cert.RotateIdeal.Rotated

open Cert.RotateIdeal Cert.RotateIdeal.Gen Cert.Hadamard Idealize.ShloMosaic Idealize.ShloMosaic.TcCoe Idealize.SL.Sem

/-! ## The kernel's payloads -/

/-- The tile the kernel builds is the 256-matrix. -/
theorem tile : IsTile (k0_pay5 (F := Ideal)) := fun i j => by
  have h0 : iota .tc S256x256 32 [0] iota_S256x256_d0_w32 (ValueIdx.ix2 i j) = BitVec.ofNat 32 i.val := by
    show BitVec.ofNat 32 (0 * 256 + i.val) = _; rw [Nat.zero_mul, Nat.zero_add]
  have h1 : iota .tc S256x256 32 [1] iota_S256x256_d1_w32 (ValueIdx.ix2 i j) = BitVec.ofNat 32 j.val := by
    show BitVec.ofNat 32 (0 * 256 + j.val) = _; rw [Nat.zero_mul, Nat.zero_add]
  show (((sgnWord (IntOp.andi (iota .tc S256x256 32 [0] iota_S256x256_d0_w32 (ValueIdx.ix2 i j))
    (iota .tc S256x256 32 [1] iota_S256x256_d1_w32 (ValueIdx.ix2 i j)))).toInt : ℝ) : EReal) = _
  rw [h0, h1]
  rfl

variable (v11 : FVec Ideal S256x256 .bf16) (v18 v25 v32 v39 : FVec Ideal S256x256 .f32) (t r : Fin 256) (a : Fin 4 → Fin 256 → ℝ)

/-- The four parts of a row hold the reals `a`. -/
abbrev Parts : Prop := ∀ k, v18 (ValueIdx.ix2 t k) = a 0 k ∧ v25 (ValueIdx.ix2 t k) = a 1 k ∧ v32 (ValueIdx.ix2 t k) = a 2 k
  ∧ v39 (ValueIdx.ix2 t k) = a 3 k

/-- What quarter `p` of a block's row holds at column `r`. -/
abbrev quarter (p : Fin 4) : ℝ := (∑ k : Fin 256, (∑ q : Fin 4, had q.val p.val * a q k) * had k.val r.val)

theorem pay15_apply (hh : IsTile v11) (ha : Parts v18 v25 v32 v39 t a) :
    k0_pay1 (k0_pay15 v11 v18 v25 v32 v39) (ValueIdx.ix2 t r) = ((quarter r a 0 * (1 / 32) : ℝ) : EReal) := by
  refine (congrArg₂ (· * ·) (split3_apply (addf (addf v18 v25) (addf v32 v39)) v11 hh bitsLt_bf16_f32 t r
    (fun k => ∑ q : Fin 4, had q.val (0 : Fin 4).val * a q k) fun k => ?_) ofBits_scale).trans (EReal.coe_mul _ _).symm
  obtain ⟨h0, h1, h2, h3⟩ := ha k
  show v18 (ValueIdx.ix2 t k) + v25 (ValueIdx.ix2 t k) + (v32 (ValueIdx.ix2 t k) + v39 (ValueIdx.ix2 t k)) = _
  rw [h0, h1, h2, h3, ← EReal.coe_add, ← EReal.coe_add, ← EReal.coe_add]
  congr 1
  simp only [Fin.sum_univ_four, had4]
  simp
  ring

theorem pay16_apply (hh : IsTile v11) (ha : Parts v18 v25 v32 v39 t a) :
    k0_pay2 (k0_pay16 v11 v18 v25 v32 v39) (ValueIdx.ix2 t r) = ((quarter r a 1 * (1 / 32) : ℝ) : EReal) := by
  refine (congrArg₂ (· * ·) (split3_apply (addf (subf v18 v25) (subf v32 v39)) v11 hh bitsLt_bf16_f32 t r
    (fun k => ∑ q : Fin 4, had q.val (1 : Fin 4).val * a q k) fun k => ?_) ofBits_scale).trans (EReal.coe_mul _ _).symm
  obtain ⟨h0, h1, h2, h3⟩ := ha k
  show v18 (ValueIdx.ix2 t k) - v25 (ValueIdx.ix2 t k) + (v32 (ValueIdx.ix2 t k) - v39 (ValueIdx.ix2 t k)) = _
  rw [h0, h1, h2, h3, ← EReal.coe_sub, ← EReal.coe_sub, ← EReal.coe_add]
  congr 1
  simp only [Fin.sum_univ_four, had4]
  simp
  ring

theorem pay17_apply (hh : IsTile v11) (ha : Parts v18 v25 v32 v39 t a) :
    k0_pay3 (k0_pay17 v11 v18 v25 v32 v39) (Scalar.ofBits .f32 0x3D000000#32) (ValueIdx.ix2 t r)
      = ((quarter r a 2 * (1 / 32) : ℝ) : EReal) := by
  refine (congrArg₂ (· * ·) (split3_apply (subf (addf v18 v25) (addf v32 v39)) v11 hh bitsLt_bf16_f32 t r
    (fun k => ∑ q : Fin 4, had q.val (2 : Fin 4).val * a q k) fun k => ?_) ofBits_scale).trans (EReal.coe_mul _ _).symm
  obtain ⟨h0, h1, h2, h3⟩ := ha k
  show v18 (ValueIdx.ix2 t k) + v25 (ValueIdx.ix2 t k) - (v32 (ValueIdx.ix2 t k) + v39 (ValueIdx.ix2 t k)) = _
  rw [h0, h1, h2, h3, ← EReal.coe_add, ← EReal.coe_add, ← EReal.coe_sub]
  congr 1
  simp only [Fin.sum_univ_four, had4]
  simp
  ring

theorem pay4_apply (hh : IsTile v11) (ha : Parts v18 v25 v32 v39 t a) :
    k0_pay4 v11 (k0_pay14 v18 v25 v32 v39) (ValueIdx.ix2 t r) = ((quarter r a 3 * (1 / 32) : ℝ) : EReal) := by
  refine (congrArg₂ (· * ·) (split3_apply (subf (subf v18 v25) (subf v32 v39)) v11 hh bitsLt_bf16_f32 t r
    (fun k => ∑ q : Fin 4, had q.val (3 : Fin 4).val * a q k) fun k => ?_) ofBits_scale).trans (EReal.coe_mul _ _).symm
  obtain ⟨h0, h1, h2, h3⟩ := ha k
  show v18 (ValueIdx.ix2 t k) - v25 (ValueIdx.ix2 t k) - (v32 (ValueIdx.ix2 t k) - v39 (ValueIdx.ix2 t k)) = _
  rw [h0, h1, h2, h3, ← EReal.coe_sub, ← EReal.coe_sub, ← EReal.coe_sub]
  congr 1
  simp only [Fin.sum_univ_four, had4]
  simp
  ring

/-- One of the four products of inputs and signs: a quarter of the block's columns. -/
theorem part_apply (x0 : Vec Ideal S256x1024 .bf16) (x1 : Vec Ideal S1x1024 .f32) (k : Fin 256) :
    k0_pay6 (View.ld x0 r0_0) (View.ld x1 r0_1) (ValueIdx.ix2 t k) = x0 (ValueIdx.ix2 t (at4 0 k)) * x1 (ValueIdx.ix2 0 (at4 0 k))
    ∧ k0_pay7 (View.ld x0 r0_2) (View.ld x1 r0_3) (ValueIdx.ix2 t k) = x0 (ValueIdx.ix2 t (at4 1 k)) * x1 (ValueIdx.ix2 0 (at4 1 k))
    ∧ k0_pay8 (View.ld x0 r0_4) (View.ld x1 r0_5) (ValueIdx.ix2 t k) = x0 (ValueIdx.ix2 t (at4 2 k)) * x1 (ValueIdx.ix2 0 (at4 2 k))
    ∧ k0_pay9 (View.ld x0 r0_6) (View.ld x1 r0_7) (ValueIdx.ix2 t k) = x0 (ValueIdx.ix2 t (at4 3 k)) * x1 (ValueIdx.ix2 0 (at4 3 k)) := by
  have i0 : (0 : Fin 4).val = 0 := rfl
  have i1 : (1 : Fin 4).val = 1 := rfl
  have i2 : (2 : Fin 4).val = 2 := rfl
  have i3 : (3 : Fin 4).val = 3 := rfl
  refine ⟨?_, ?_, ?_, ?_⟩
  · pointwise [k0_pay6]
    blk_point [i0]
    all_goals (show k.val = _; omega)
  · pointwise [k0_pay7]
    blk_point [i1]
  · pointwise [k0_pay8]
    blk_point [i2]
  · pointwise [k0_pay9]
    blk_point [i3]

/-! ## The output block -/

/-- What a point leaves in the output block, where the products of inputs and signs are finite. -/
theorem out_apply (x0 : Vec Ideal S256x1024 .bf16) (x1 : Vec Ideal S1x1024 .f32) (b : Fin 256 → Fin 1024 → ℝ)
    (hb : ∀ t n, x0 (ValueIdx.ix2 t n) * x1 (ValueIdx.ix2 0 n) = b t n) (y : S256x1024.Idx) :
    out0_2 x0 x1 y = (((∑ n, b (y 0) n * had n.val (y 1).val) * (1 / 32) : ℝ) : EReal) := by
  unfold_out out0_2
  have hP : ∀ t, Parts (k0_pay6 (View.ld x0 r0_0) (View.ld x1 r0_1)) (k0_pay7 (View.ld x0 r0_2) (View.ld x1 r0_3))
      (k0_pay8 (View.ld x0 r0_4) (View.ld x1 r0_5)) (k0_pay9 (View.ld x0 r0_6) (View.ld x1 r0_7)) t (fun q k => b t (at4 q k)) := fun t k => by
    obtain ⟨e0, e1, e2, e3⟩ := part_apply t x0 x1 k
    exact ⟨e0.trans (hb _ _), e1.trans (hb _ _), e2.trans (hb _ _), e3.trans (hb _ _)⟩
  refine View.canon_apply_of_pieces (Val := Elt Ideal) (e := .bf16) (fun y => (((∑ n, b (y 0) n * had n.val (y 1).val) * (1 / 32) : ℝ) : EReal)) _
    (fun pc hp x => ?_) y (cover0_2 _ _ _ _ y)
  have key : ∀ (t r : Fin 256) (p : Fin 4) (z : S256x1024.Idx), z 0 = t → (z 1).val = 256 * p.val + r.val →
      ((quarter r (fun q k => b t (at4 q k)) p * (1 / 32) : ℝ) : EReal)
        = (((∑ n, b (z 0) n * had n.val (z 1).val) * (1 / 32) : ℝ) : EReal) := fun t r p z h0 h1 => by
    rw [h0, h1, sum_1024 (b t) p r]
  simp only [List.mem_cons, List.not_mem_nil, or_false] at hp
  rcases hp with rfl | rfl | rfl | rfl
  · rw [ValueIdx.eq_ix2 x]
    refine (pay4_apply _ _ _ _ _ (x 0) (x 1) _ tile (hP _)).trans (key _ _ 3 _ ?_ ?_)
    · apply Fin.ext; show 0 + 1 * (x 0).val = _; omega
    · show 768 + 1 * (x 1).val = _; show _ = 256 * 3 + (x 1).val; omega
  · rw [ValueIdx.eq_ix2 x]
    refine (pay17_apply _ _ _ _ _ (x 0) (x 1) _ tile (hP _)).trans (key _ _ 2 _ ?_ ?_)
    · apply Fin.ext; show 0 + 1 * (x 0).val = _; omega
    · show 512 + 1 * (x 1).val = _; show _ = 256 * 2 + (x 1).val; omega
  · rw [ValueIdx.eq_ix2 x]
    refine (pay16_apply _ _ _ _ _ (x 0) (x 1) _ tile (hP _)).trans (key _ _ 1 _ ?_ ?_)
    · apply Fin.ext; show 0 + 1 * (x 0).val = _; omega
    · show 256 + 1 * (x 1).val = _; show _ = 256 * 1 + (x 1).val; omega
  · rw [ValueIdx.eq_ix2 x]
    refine (pay15_apply _ _ _ _ _ (x 0) (x 1) _ tile (hP _)).trans (key _ _ 0 _ ?_ ?_)
    · apply Fin.ext; show 0 + 1 * (x 0).val = _; omega
    · show 0 + 1 * (x 1).val = _; show _ = 256 * 0 + (x 1).val; omega

/-! ## The array -/

/-- The rotated input: at row `t` and column `i`, the product of the column's block of 1024 inputs times signs by the Hadamard
    matrix of the block, scaled. -/
def rotated (x : S1x256x7168.Idx → EReal) (su : S7168.Idx → EReal) : S256x7168.Idx → EReal := fun i =>
  (∑ n : Fin 1024, x (ValueIdx.ix3 0 (i 0) ⟨1024 * ((i 1).val / 1024) + n.val, by have h : (i 1).val < 7168 := (i 1).isLt; omega⟩)
      * su (ValueIdx.ix1 ⟨1024 * ((i 1).val / 1024) + n.val, by have h : (i 1).val < 7168 := (i 1).isLt; omega⟩)
      * (had n.val ((i 1).val % 1024) : EReal)) * ((1 / 32 : ℝ) : EReal)

/-- The same at row `t` and column `j` of block `p`. -/
theorem rotated_apply (x : S1x256x7168.Idx → EReal) (su : S7168.Idx → EReal) (i : S256x7168.Idx) (p : Nat) (t : Fin 256) (j : Fin 1024)
    (hp : p < 7) (h0 : i 0 = t) (h1 : (i 1).val = 1024 * p + j.val) :
    rotated x su i = (∑ n : Fin 1024, x (ValueIdx.ix3 0 t ⟨1024 * p + n.val, by omega⟩)
      * su (ValueIdx.ix1 ⟨1024 * p + n.val, by omega⟩) * (had n.val j.val : EReal)) * ((1 / 32 : ℝ) : EReal) := by
  have d1 : (i 1).val / 1024 = p := by omega
  have m1 : (i 1).val % 1024 = j.val := by omega
  subst h0
  subst d1
  unfold rotated
  rw [m1]

theorem idx0 : ∀ t : Fin cfg0.N, win0_0.index t = ![0, t.val] := (by decide +kernel : ∀ t : Fin grid0.N, win0_0.index t = ![0, t.val])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

variable (m : (ℓ : Loc nD τ sig) → Buf (Elt Ideal) ℓ)

theorem blk0 (c : Dev nD) (p : Fin cfg0.N) (t : Fin 256) (n : Fin 1024) (hn : 1024 * p.val + n.val < 7168) :
    iblk m c 0 p (ValueIdx.ix2 t n) = m ((c : Thread nD τ).loc main_arg0) (ValueIdx.ix3 0 t ⟨1024 * p.val + n.val, hn⟩) := by
  blk_ext! [iblk, V, idx0 p]
  show p.val * 1024 + n.val = _; omega

theorem blk1 (c : Dev nD) (p : Fin cfg0.N) (n : Fin 1024) (hn : 1024 * p.val + n.val < 7168) :
    iblk m c 1 p (ValueIdx.ix2 0 n) = m ((c : Thread nD τ).loc main_arg1) (ValueIdx.ix1 ⟨1024 * p.val + n.val, hn⟩) := by
  blk_ext! [iblk, V, idx1 p]
  show p.val * 1024 + n.val = _; omega

/-- The kernel's array after the run, where every input and every sign is finite. -/
theorem final (c : Dev nD) (x : S1x256x7168.Idx → ℝ) (su : S7168.Idx → ℝ)
    (hx : ∀ i, m ((c : Thread nD τ).loc main_arg0) i = (x i : EReal)) (hsu : ∀ i, m ((c : Thread nD τ).loc main_arg1) i = (su i : EReal)) :
    (dats m 0 c).arrAt 2 cfg0.N = rotated (m ((c : Thread nD τ).loc main_arg0)) (m ((c : Thread nD τ).loc main_arg1)) := by
  refine (dats m 0 c).arrAt_eq_of_covers 2 _ (by decide +kernel) fun p hf y => ?_
  blk_simp
  rw [after0_2]
  have hp : p.val < 7 := p.isLt
  have hlt : ∀ n : Fin 1024, 1024 * p.val + n.val < 7168 := fun n => by omega
  have hsum : ∀ (t : Fin 256) (n : Fin 1024), @HMul.hMul EReal EReal EReal _ (iblk m c 0 p (ValueIdx.ix2 t n)) (iblk m c 1 p (ValueIdx.ix2 0 n))
      = ((x (ValueIdx.ix3 0 t ⟨1024 * p.val + n.val, hlt n⟩) * su (ValueIdx.ix1 ⟨1024 * p.val + n.val, hlt n⟩) : ℝ) : EReal) := fun t n => by
    rw [blk0 m c p t n (hlt n), blk1 m c p n (hlt n), hx, hsu, EReal.coe_mul]
  refine (out_apply (iblk m c 0 p) (iblk m c 1 p) _ hsum y).trans ?_
  have e0 : (((cfg0.win 2).blk p).view.emb y : S256x7168.Idx) 0 = y 0 := by
    apply Fin.ext
    blk_simp [idx2 p]
  have e1 : ((((cfg0.win 2).blk p).view.emb y : S256x7168.Idx) 1).val = 1024 * p.val + (y 1).val := by
    blk_simp [idx2 p]
    omega
  generalize (((cfg0.win 2).blk p).view.emb y : S256x7168.Idx) = i at e0 e1
  have hy : (y 1).val < 1024 := (y 1).isLt
  refine Eq.trans ?_ (rotated_apply _ _ i p.val (y 0) (y 1) hp e0 e1).symm
  rw [EReal.coe_mul, coe_sum]
  refine congrArg (fun z : EReal => z * ((1 / 32 : ℝ) : EReal)) (Finset.sum_congr rfl fun n _ => ?_)
  rw [EReal.coe_mul, EReal.coe_mul, ← hx, ← hsu]

end Cert.RotateIdeal.Rotated

end
-- ==== Proof.RotateClaims.lean ====
/- The rotation's reference read at an index, and the two claims: the kernel's run at the ideal instance, and its equality with the
   reference at finite inputs. -/
module

public import proofs.«01_k».proof.Defs
public import proofs.«01_k».proof.Proof.RotateValue

@[expose] public section

noncomputable section

/-! ## Finiteness -/

namespace Cert.Hadamard

open Idealize.ShloMosaic

/-- A value whose absolute value compares below the infinity's pattern is a real. -/
theorem real_of_abs_lt (e : EReal) (h : FloatOps.cmpf (F := Ideal) (φ := .f32) .olt (FloatOps.absf (F := Ideal) (φ := .f32) e)
    (Ideal.ofBits .f32 0x7F800000#32) = 1#1) : e = ((e.toReal : ℝ) : EReal) := by
  have hi : Ideal.ofBits .f32 0x7F800000#32 = (⊤ : EReal) := by simp [Ideal.ofBits, Ideal.ieee]
  rw [hi] at h
  have h' : max e (-e) < ⊤ := by
    by_contra hn
    have : Ideal.cmp .olt (max e (-e)) ⊤ = 1#1 := h
    simp [Ideal.cmp, hn] at this
  induction e using EReal.rec with
  | bot => simp at h'
  | top => simp at h'
  | coe r => rfl

/-- The matrix is symmetric. -/
theorem had_comm (i j : Nat) : had i j = had j i := by
  unfold had
  rw [show IntOp.andi (BitVec.ofNat 32 i) (BitVec.ofNat 32 j) = IntOp.andi (BitVec.ofNat 32 j) (BitVec.ofNat 32 i) from BitVec.and_comm _ _]

end Cert.Hadamard

namespace Cert.RotateRefIdeal.Rotated

open Cert.RotateRefIdeal Cert.RotateRefIdeal.Gen Cert.Hadamard Idealize.ShloMosaic Idealize.ShloMosaic.TcCoe Idealize.SL.Sem

theorem ref_eq (x : S1x256x7168.Idx → EReal) (su : S7168.Idx → EReal) :
    (shapeCast S256x7168 (truncf (F := Ideal) .bf16 (shapeCast _ (mulf (F := Ideal) (Host.dotGeneral dot_S1x256x7x1024_S1024x1024_S1x256x7x1024_3_1_012_0_n_n (some .fp32) (shapeCast _ (mulf (F := Ideal) (extf (F := Ideal) .f32 x bitsLt_bf16_f32) (broadcastInDim S1x256x7168 ![0, 1, 2] bcast_S1x1x7168_S1x256x7168_0_1_2 (broadcastInDim S1x1x7168 ![2] bcast_S7168_S1x1x7168_2 su))) shapeCasts_S1x256x7168_S1x256x7x1024) (sitofp .f32 (subi (broadcastInDim S1024x1024 ![] bcast_S_S1024x1024 (constantI S_ 32 1#32)) (muli (broadcastInDim S1024x1024 ![] bcast_S_S1024x1024 (constantI S_ 32 2#32)) (andi (ctpop (andi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 1#32))))))) (broadcastInDim S1x256x7x1024 ![] bcast_S_S1x256x7x1024 (constant S_ .f32 0x3D000000#32))) shapeCasts_S1x256x7x1024_S1x256x7168) bitsLt_bf16_f32) shapeCasts_S1x256x7168_S256x7168 : S256x7168.Idx → EReal)
      = Cert.RotateIdeal.Rotated.rotated x su := by
  funext i
  unfold Cert.RotateIdeal.Rotated.rotated
  pointwise
  rw [ofBits_scale]
  refine congrArg (fun z : EReal => z * ((1 / 32 : ℝ) : EReal)) (Finset.sum_congr rfl fun n _ => ?_)
  have e : (i 1).val / 1024 * 1024 + n.val = 1024 * ((i 1).val / 1024) + n.val := by omega
  rw [had_comm n.val]
  refine congrArg₂ (· * ·) (congrArg₂ (· * ·) (congrArg x ?_) (congrArg su ?_)) rfl
  · funext a; apply Fin.ext
    match a with
    | ⟨0, _⟩ => rfl
    | ⟨1, _⟩ => rfl
    | ⟨2, _⟩ => exact e
  · funext a; apply Fin.ext
    match a with
    | ⟨0, _⟩ => exact e

end Cert.RotateRefIdeal.Rotated

/-! ## The claims -/

namespace Cert.Proof.RotateClaims

open Idealize.ShloMosaic Idealize.ShloMosaic.TcCoe Idealize.SL.Sem Cert.Hadamard

instance : Cert.RotateIdeal.Facts := Cert.RotateIdeal.Gen.facts
instance : Cert.RotateRefIdeal.Facts := Cert.RotateRefIdeal.Gen.facts
instance : Cert.Pre_finite_inputs.Facts := Cert.Pre_finite_inputs.Gen.facts

/-- The reference runs, its arguments unchanged, every counter zero at the end. -/
theorem frame_ref : Cert.quiescent_RotateRefIdeal := fun m ρ _ =>
  (θ_run Cert.RotateRefIdeal.defs _ _).mono (fun r h => ⟨fun c => (h c).2, sem_eq_zero_of_no_sems (by decide) r.2⟩)
    (Cert.RotateRefIdeal.Value.run (F := Ideal) m ρ)

/-- The precondition, read: every input and every sign is a real. -/
theorem reals_of_pre (x : Cert.Pre_finite_inputs.S1x256x7168.Idx → EReal) (su : Cert.Pre_finite_inputs.S7168.Idx → EReal)
    (h : (Cert.Pre_finite_inputs.fn (F := Ideal) x su).1 = (fun _ => 1#1) ∧ (Cert.Pre_finite_inputs.fn (F := Ideal) x su).2 = (fun _ => 1#1)) :
    (∀ i, x i = ((x i).toReal : EReal)) ∧ (∀ i, su i = ((su i).toReal : EReal)) :=
  ⟨fun i => real_of_abs_lt _ (congrFun h.1 i), fun i => real_of_abs_lt _ (congrFun h.2 i)⟩

/-- The kernel and the reference end with equal results at finite inputs. -/
theorem algebraic : Cert.algebraic_RotateIdeal_RotateRefIdeal_pre_finite_inputs := by
  intro m g m' g' hpre hagree
  refine ⟨fun c => Cert.RotateIdeal.Rotated.rotated (m ((c : Thread Cert.RotateIdeal.nD Cert.RotateIdeal.τ).loc Cert.RotateIdeal.main_arg0))
    (m ((c : Thread Cert.RotateIdeal.nD Cert.RotateIdeal.τ).loc Cert.RotateIdeal.main_arg1)), ?_, ?_⟩
  · refine (θ_run Cert.RotateIdeal.defs _ _).mono (fun r h c => ⟨(h c).1.trans ?_, (h c).2⟩) (Cert.RotateIdeal.Value.run_blocks (F := Ideal) m g)
    obtain ⟨hx, hsu⟩ := reals_of_pre _ _ (hpre c)
    exact Cert.RotateIdeal.Rotated.final m c _ _ hx hsu
  · refine (θ_run Cert.RotateRefIdeal.defs _ _).mono (fun r h c => ⟨(h c).1.trans ?_, (h c).2⟩) (Cert.RotateRefIdeal.Value.run (F := Ideal) m' g')
    rw [(hagree c).1, (hagree c).2]
    exact Cert.RotateRefIdeal.Rotated.ref_eq _ _

end Cert.Proof.RotateClaims

end
-- ==== Proof.LinearFrame.lean ====
/- The frame of the second call at machine words: it ends without fault and leaves its arguments as they were. What the
   call leaves in its result is not named here; `LinearRun.lean` names it over the extended reals. -/
module

public import proofs.«01_k».proof.Proof.Gen.Linear.Frame
public import proofs.«01_k».proof.Proof.Gen.Linear.Loops
public import proofs.«01_k».proof.Proof.Gen.Linear.Skeleton
public import Idealize.ShloMosaic.Lib.Claim

@[expose] public section

set_option maxRecDepth 16384

noncomputable section

namespace Cert.Linear.Framed

open Cert.Linear.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Linear`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x896 .i16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x7168 .bf16 := Memref.whole cc0_scratch0
abbrev scM0_1 : Memref sig .tc .vmem S4x256x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple IN CASE A (`scf.if` 0 not taken: points 0, 1, … 70: 54 of 72): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S256x7168 .bf16) (harg2 : arg2.IsWhole) (arg3 : Memref sig .tc .vmem S256x896 .i16) (harg3 : arg3.IsWhole) (arg4 : Memref sig .tc .vmem S1x256 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x7168 .bf16) (harg7 : arg7.IsWhole) (arg8 : Memref sig .tc .vmem S4x256x256 .f32) (harg8 : arg8.IsWhole) (hc0 : ¬cond0_0 i)
    (x0 : Vec F S256x7168 .bf16) (x1 : Vec F S256x896 .i16) (x2 : Vec F S1x256 .f32) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_linear i arg2 harg2 arg3 harg3 arg4 harg4 arg5 harg5 arg6 harg6 arg7 harg7 arg8 harg8) K := by
    intro E K
    simp only [cc0_linear_eq_skeleton]; unfold cc0_linear_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1000000 in
/-- The body's triple IN CASE B (`scf.if` 0 taken: points 3, 7, … 71: 18 of 72): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S256x7168 .bf16) (harg2 : arg2.IsWhole) (arg3 : Memref sig .tc .vmem S256x896 .i16) (harg3 : arg3.IsWhole) (arg4 : Memref sig .tc .vmem S1x256 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x7168 .bf16) (harg7 : arg7.IsWhole) (arg8 : Memref sig .tc .vmem S4x256x256 .f32) (harg8 : arg8.IsWhole) (hc0 : cond0_0 i)
    (x0 : Vec F S256x7168 .bf16) (x1 : Vec F S256x896 .i16) (x2 : Vec F S1x256 .f32) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_linear i arg2 harg2 arg3 harg3 arg4 harg4 arg5 harg5 arg6 harg6 arg7 harg7 arg8 harg8) K := by
    intro E K
    simp only [cc0_linear_eq_skeleton]; unfold cc0_linear_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 72 := lt_of_lt_of_eq t.isLt (show cfg0.N = 72 from N_0)
  by_cases h0 : t.val % 4 = 3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Linear`'s statement (Defs.lean) at any `F` — Proof.lean cites it at `Bits`:
    `theorem Cert.Proof.claim : Cert.Claim := ⟨Cert.Linear.Gen.facts, fun m ρ _ => Cert.Linear.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Linear.Framed

end
-- ==== Proof.Decode.lean ====
/- The decoding of one 16-bit state into a weight. A state is multiplied, offset, masked and xored into one 32-bit word, whose two
   halves are read as half-precision floats and added. The reference widens each half by rebuilding the exponent of an `f32`; the
   kernel shifts the half in place, with a copied sign, so that its exponent is 112 too small, and multiplies by `2 ^ 112` at the end.
   The theorems `kval_eq` and `rval_eq` state that the two readings are one real number, `weight`, up to that factor. -/
module

public import Idealize.ShloMosaic.Lib.ValueIdx
public import Idealize.ShloMosaic.Lib.MatmulPlain

@[expose] public section

noncomputable section

namespace Cert.Decode

open Idealize.ShloMosaic

/-! ## The words -/

/-- The word whose halves are the two half-precision summands of state `q`. -/
def hash (q : BitVec 32) : BitVec 32 := ((q * 89226354#32 + 64248484#32) &&& 2415890431#32) ^^^ 996162400#32

/-- The kernel's `f32` word for the high half of `y`. -/
def kHi (y : BitVec 32) : BitVec 32 := (y.sshiftRight 3) &&& 2415910912#32

/-- The kernel's `f32` word for the low half of `y`. -/
def kLo (y : BitVec 32) : BitVec 32 := ((y <<< 16).sshiftRight 3) &&& 2415919103#32

/-- The reference's `f32` word for a half held in a 32-bit word. -/
def rWord (h : BitVec 32) : BitVec 32 := ((h &&& 32768#32) <<< 16) ||| (((h &&& 32767#32) <<< 13) + 939524096#32)

/-- The kernel's word for a half of 16 bits. -/
def kBits (h : BitVec 16) : BitVec 32 := (((h.setWidth 32) <<< 16).sshiftRight 3) &&& 2415919103#32

/-- The bits of the masks. -/
theorem mask_low : ∀ i : Fin 32, (65535#32).getLsbD i.val = decide (i.val < 16) := by decide +kernel
theorem mask_high : ∀ i : Fin 32, (4294901760#32).getLsbD i.val = decide (16 ≤ i.val) := by decide +kernel
theorem mask_hi : ∀ i : Fin 32, (2415910912#32).getLsbD i.val = (decide (13 ≤ i.val) && (2415919103#32).getLsbD i.val) := by decide +kernel

theorem kLo_eq (y : BitVec 32) : kLo y = kBits (y.extractLsb' 0 16) := by
  have : y <<< 16 = ((y.extractLsb' 0 16).setWidth 32) <<< 16 := by
    apply BitVec.eq_of_getLsbD_eq
    intro i hi
    simp only [BitVec.getLsbD_shiftLeft, BitVec.getLsbD_setWidth, BitVec.getLsbD_extractLsb']
    by_cases h : i < 16
    · simp [h]
    · have h2 : i - 16 < 16 := by omega
      have h3 : i - 16 < 32 := by omega
      simp [h, h2, h3]
  unfold kLo kBits
  rw [this]

theorem kHi_eq (y : BitVec 32) : kHi y = kBits (y.extractLsb' 16 16) := by
  unfold kHi kBits
  apply BitVec.eq_of_getLsbD_eq
  intro i hi
  have hi' : i < 32 := hi
  rw [BitVec.getLsbD_and, BitVec.getLsbD_and, mask_hi ⟨i, hi'⟩]
  simp only [BitVec.getLsbD_sshiftRight, BitVec.msb_eq_getLsbD_last, BitVec.getLsbD_shiftLeft, BitVec.getLsbD_setWidth,
    BitVec.getLsbD_extractLsb']
  by_cases h13 : 13 ≤ i
  · by_cases h : 3 + i < 32
    · have e : 16 + (3 + i - 16) = 3 + i := by omega
      have e2 : 3 + i - 16 < 16 := by omega
      have e3 : ¬ (3 + i < 16) := by omega
      have e4 : 3 + i - 16 < 32 := by omega
      simp [h, h13, e, e2, e3, e4]
    · simp [h, h13]
  · have e3 : 3 + i < 16 := by omega
    have e4 : 3 + i < 32 := by omega
    simp [h13, e3, e4]

theorem low_eq (y : BitVec 32) : y &&& 65535#32 = (y.extractLsb' 0 16).setWidth 32 := by
  apply BitVec.eq_of_getLsbD_eq
  intro i hi
  have hi' : i < 32 := hi
  rw [BitVec.getLsbD_and, mask_low ⟨i, hi'⟩]
  simp only [BitVec.getLsbD_setWidth, BitVec.getLsbD_extractLsb']
  by_cases h : i < 16 <;> simp [h, hi']

theorem high_eq (y : BitVec 32) : y >>> 16 = (y.extractLsb' 16 16).setWidth 32 := by
  apply BitVec.eq_of_getLsbD_eq
  intro i hi
  have hi' : i < 32 := hi
  simp only [BitVec.getLsbD_ushiftRight, BitVec.getLsbD_setWidth, BitVec.getLsbD_extractLsb']
  by_cases h : i < 16
  · simp [h, hi']
  · have : y.getLsbD (16 + i) = false := BitVec.getLsbD_of_ge _ _ (by omega)
    simp [h, this]

theorem hash_low (q : BitVec 32) : (hash q).extractLsb' 0 16
    = (((q * 89226354#32 + 64248484#32).extractLsb' 0 16) &&& 36863#16) ^^^ 15200#16 := by
  unfold hash
  rw [BitVec.extractLsb'_xor, BitVec.extractLsb'_and]
  rfl

theorem hash_high (q : BitVec 32) : (hash q).extractLsb' 16 16
    = (((q * 89226354#32 + 64248484#32).extractLsb' 16 16) &&& 36863#16) ^^^ 15200#16 := by
  unfold hash
  rw [BitVec.extractLsb'_xor, BitVec.extractLsb'_and]
  rfl

/-! ## The halves -/

/-- The sign, exponent and fraction of a 16-bit half. -/
def neg (h : BitVec 16) : Bool := h.extractLsb' 15 1 == 1#1
def ex (h : BitVec 16) : Nat := (h.extractLsb' 10 5).toNat
def fr (h : BitVec 16) : Nat := (h.extractLsb' 0 10).toNat

/-- What a normal half-precision float denotes. -/
def half (h : BitVec 16) : ℝ := (if neg h then -1 else 1) * (1024 + fr h : ℝ) * (2 : ℝ) ^ ((ex h : Int) - 25)

/-- What a normal `f32` word denotes, from its fields. -/
theorem f32_of_fields (b : BitVec 32) (n : Bool) (e f : Nat) (hn : (b.extractLsb' 31 1 == 1#1) = n) (he : (b.extractLsb' 23 8).toNat = e)
    (hf : (b.extractLsb' 0 23).toNat = f) (h0 : e ≠ 0) (h1 : e ≠ 255) :
    Ideal.ofBits .f32 b = (((if n then -1 else 1) * (2 ^ 23 + f : ℝ) * (2 : ℝ) ^ ((e : Int) - 150) : ℝ) : EReal) := by
  show Ideal.ieee 8 23 b = _
  unfold Ideal.ieee
  simp only [show (8 + 23 : Nat) = 31 from rfl, hn, he, hf]
  rw [if_neg (by simpa using h1), if_neg h0]
  congr 2
  · push_cast; norm_num
  · congr 1; norm_num; ring

/-- The kernel's word: the sign, the exponent and the fraction of the half, in the fields of an `f32`. -/
theorem kBits_neg (h : BitVec 16) : ((kBits h).extractLsb' 31 1 == 1#1) = neg h := by
  have : (kBits h).extractLsb' 31 1 = h.extractLsb' 15 1 := by
    apply BitVec.eq_of_getLsbD_eq
    intro i hi
    obtain rfl : i = 0 := by omega
    simp only [kBits, BitVec.getLsbD_extractLsb', BitVec.getLsbD_and, BitVec.getLsbD_sshiftRight, BitVec.msb_eq_getLsbD_last,
      BitVec.getLsbD_shiftLeft, BitVec.getLsbD_setWidth]
    simp
  rw [this, neg]

theorem mask_ex : ∀ i : Fin 8, (2415919103#32).getLsbD (23 + i.val) = decide (i.val < 5) := by decide +kernel
theorem mask_fr : ∀ i : Fin 23, (2415919103#32).getLsbD (0 + i.val) = true := by decide +kernel

theorem kBits_ex (h : BitVec 16) : ((kBits h).extractLsb' 23 8).toNat = ex h := by
  have : (kBits h).extractLsb' 23 8 = (h.extractLsb' 10 5).setWidth 8 := by
    apply BitVec.eq_of_getLsbD_eq
    intro i hi
    have hi' : i < 8 := hi
    simp only [kBits, BitVec.getLsbD_extractLsb', BitVec.getLsbD_and, mask_ex ⟨i, hi'⟩, BitVec.getLsbD_sshiftRight,
      BitVec.getLsbD_shiftLeft, BitVec.getLsbD_setWidth]
    by_cases h5 : i < 5
    · have e1 : 3 + (23 + i) < 32 := by omega
      have e2 : ¬ (3 + (23 + i) < 16) := by omega
      have e3 : 3 + (23 + i) - 16 = 10 + i := by omega
      have e4 : 10 + i < 32 := by omega
      have e5 : ¬ (32 ≤ 23 + i) := by omega
      simp [h5, e1, e2, e3, e4, e5, hi']
    · simp [h5]
  rw [this, BitVec.toNat_setWidth, Nat.mod_eq_of_lt, ex]
  exact lt_of_lt_of_le (h.extractLsb' 10 5).isLt (by norm_num)

theorem kBits_fr (h : BitVec 16) : ((kBits h).extractLsb' 0 23).toNat = fr h * 8192 := by
  have : (kBits h).extractLsb' 0 23 = ((h.extractLsb' 0 10).setWidth 23) <<< 13 := by
    apply BitVec.eq_of_getLsbD_eq
    intro i hi
    have hi' : i < 23 := hi
    simp only [kBits, BitVec.getLsbD_extractLsb', BitVec.getLsbD_and, mask_fr ⟨i, hi'⟩, BitVec.getLsbD_sshiftRight,
      BitVec.getLsbD_shiftLeft, BitVec.getLsbD_setWidth]
    have e1 : 3 + (0 + i) < 32 := by omega
    have e6 : ¬ (32 ≤ 0 + i) := by omega
    by_cases h13 : i < 13
    · have e2 : 3 + (0 + i) < 16 := by omega
      simp only [h13, e1, e2, if_true]; simp
    · have e2 : ¬ (3 + (0 + i) < 16) := by omega
      have e3 : 3 + (0 + i) - 16 = i - 13 := by omega
      have e4 : i - 13 < 32 := by omega
      have e5 : i - 13 < 10 := by omega
      have e7 : i - 13 < 23 := by omega
      have e8 : 0 + (i - 13) = i - 13 := by omega
      have e9 : i < 32 := by omega
      simp only [e1, if_true, e3, e8]; simp [h13, e2, e4, e5, e7, e9, hi', e1, (show ¬ 32 ≤ i by omega), (show ¬ 3 + i < 16 by omega)]
  have hl := (h.extractLsb' 0 10).isLt
  rw [this, BitVec.toNat_shiftLeft, BitVec.toNat_setWidth, Nat.shiftLeft_eq, fr, Nat.mod_eq_of_lt (a := (h.extractLsb' 0 10).toNat) (by omega),
    Nat.mod_eq_of_lt (by omega)]

/-- The reference's word, as a number. -/
theorem rWord_toNat (h : BitVec 16) :
    (rWord (h.setWidth 32)).toNat = (h.toNat / 32768) * 2147483648 + (h.toNat % 32768) * 8192 + 939524096 := by
  have hl : h.toNat < 65536 := h.isLt
  have e0 : (h.setWidth 32).toNat = h.toNat := by rw [BitVec.toNat_setWidth, Nat.mod_eq_of_lt (by omega)]
  have ea : h.toNat &&& 32767 = h.toNat % 32768 := Nat.and_two_pow_sub_one_eq_mod _ 15
  have eb : h.toNat &&& 32768 = (h.toNat / 32768) * 32768 := by
    have e1 : (h.toNat &&& 32768) / 2 ^ 15 = h.toNat / 2 ^ 15 % 2 := by
      rw [Nat.and_div_two_pow]; exact Nat.and_one_is_mod _
    have e2 : (h.toNat &&& 32768) % 2 ^ 15 = 0 := by
      rw [Nat.and_mod_two_pow]; exact Nat.and_zero _
    omega
  have er : (((h.setWidth 32 &&& 32767#32) <<< 13) + 939524096#32 : BitVec 32).toNat = (h.toNat % 32768) * 8192 + 939524096 := by
    rw [BitVec.toNat_add, BitVec.toNat_shiftLeft, BitVec.toNat_and, e0, Nat.shiftLeft_eq]
    show ((h.toNat &&& 32767) * 2 ^ 13 % 2 ^ 32 + 939524096) % 2 ^ 32 = _
    rw [ea]; omega
  have el : ((h.setWidth 32 &&& 32768#32) <<< 16 : BitVec 32).toNat = (h.toNat / 32768) * 2147483648 := by
    rw [BitVec.toNat_shiftLeft, BitVec.toNat_and, e0, Nat.shiftLeft_eq]
    show (h.toNat &&& 32768) * 2 ^ 16 % 2 ^ 32 = _
    rw [eb]; omega
  unfold rWord
  rw [BitVec.toNat_or, er, el]
  have := Nat.two_pow_add_eq_or_of_lt (i := 31) (b := (h.toNat % 32768) * 8192 + 939524096) (by omega) (h.toNat / 32768)
  rw [show (2 : Nat) ^ 31 * (h.toNat / 32768) = (h.toNat / 32768) * 2147483648 by omega] at this
  omega

theorem rWord_neg (h : BitVec 16) : ((rWord (h.setWidth 32)).extractLsb' 31 1 == 1#1) = neg h := by
  have hl : h.toNat < 65536 := h.isLt
  have : (rWord (h.setWidth 32)).extractLsb' 31 1 = h.extractLsb' 15 1 := by
    apply BitVec.eq_of_toNat_eq
    rw [BitVec.extractLsb'_toNat, BitVec.extractLsb'_toNat, rWord_toNat, Nat.shiftRight_eq_div_pow, Nat.shiftRight_eq_div_pow]
    omega
  rw [this, neg]

theorem rWord_ex (h : BitVec 16) : ((rWord (h.setWidth 32)).extractLsb' 23 8).toNat = ex h + 112 := by
  have hl : h.toNat < 65536 := h.isLt
  rw [ex, BitVec.extractLsb'_toNat, BitVec.extractLsb'_toNat, rWord_toNat, Nat.shiftRight_eq_div_pow, Nat.shiftRight_eq_div_pow]
  omega

theorem rWord_fr (h : BitVec 16) : ((rWord (h.setWidth 32)).extractLsb' 0 23).toNat = fr h * 8192 := by
  have hl : h.toNat < 65536 := h.isLt
  rw [fr, BitVec.extractLsb'_toNat, BitVec.extractLsb'_toNat, rWord_toNat, Nat.shiftRight_eq_div_pow, Nat.shiftRight_eq_div_pow]
  omega

/-- The halves that decoding makes are normal. -/
theorem ex_pos (t : BitVec 16) : ex ((t &&& 36863#16) ^^^ 15200#16) ≠ 0 := by
  intro h0
  have : (((t &&& 36863#16) ^^^ 15200#16).extractLsb' 10 5) = 0#5 := BitVec.eq_of_toNat_eq h0
  have h2 := congrArg (fun b : BitVec 5 => b.getLsbD 2) this
  simp [BitVec.getLsbD_extractLsb'] at h2

theorem ex_lt (h : BitVec 16) : ex h < 32 := (h.extractLsb' 10 5).isLt

/-- The kernel's word of a half denotes the half divided by `2 ^ 112`. -/
theorem kBits_eq (t : BitVec 16) :
    Ideal.ofBits .f32 (kBits ((t &&& 36863#16) ^^^ 15200#16)) = ((half ((t &&& 36863#16) ^^^ 15200#16) / 2 ^ 112 : ℝ) : EReal) := by
  have h7 := ex_pos t
  generalize ((t &&& 36863#16) ^^^ 15200#16) = h at *
  have h8 := ex_lt h
  rw [f32_of_fields _ _ _ _ (kBits_neg h) (kBits_ex h) (kBits_fr h) h7 (by omega)]
  congr 1
  unfold half
  have e : (2 : ℝ) ^ ((ex h : Int) - 25) = (2 : ℝ) ^ ((ex h : Int) - 150) * 2 ^ 125 := by
    rw [← zpow_natCast (2 : ℝ) 125, ← zpow_add₀ (by norm_num : (2 : ℝ) ≠ 0)]; congr 1; push_cast; ring
  rw [e]
  push_cast
  ring

/-- The reference's word of a half denotes the half. -/
theorem rWord_eq (t : BitVec 16) :
    Ideal.ofBits .f32 (rWord (((t &&& 36863#16) ^^^ 15200#16).setWidth 32)) = ((half ((t &&& 36863#16) ^^^ 15200#16) : ℝ) : EReal) := by
  generalize ((t &&& 36863#16) ^^^ 15200#16) = h
  have h8 := ex_lt h
  rw [f32_of_fields _ _ _ _ (rWord_neg h) (rWord_ex h) (rWord_fr h) (by omega) (by omega)]
  congr 1
  unfold half
  have e : (2 : ℝ) ^ ((ex h : Int) - 25) = (2 : ℝ) ^ (((ex h + 112 : Nat) : Int) - 150) * 2 ^ 13 := by
    rw [← zpow_natCast (2 : ℝ) 13, ← zpow_add₀ (by norm_num : (2 : ℝ) ≠ 0)]; congr 1; push_cast; ring
  rw [e]
  push_cast
  ring

/-! ## The weight -/

/-- The weight of a state, a real. -/
def weight (q : BitVec 32) : ℝ := half ((hash q).extractLsb' 0 16) + half ((hash q).extractLsb' 16 16)

/-- The kernel's reading of a state is its weight divided by `2 ^ 112`. -/
theorem kval_eq (q : BitVec 32) :
    (@HAdd.hAdd EReal EReal EReal _ (Ideal.ofBits .f32 (kHi (hash q))) (Ideal.ofBits .f32 (kLo (hash q))))
      = ((weight q / 2 ^ 112 : ℝ) : EReal) := by
  rw [kHi_eq, kLo_eq, hash_low, hash_high, kBits_eq, kBits_eq, ← EReal.coe_add, weight, hash_low, hash_high]
  congr 1; ring

/-- The reference's reading of a state is its weight. -/
theorem rval_eq (q : BitVec 32) :
    (@HAdd.hAdd EReal EReal EReal _ (Ideal.ofBits .f32 (rWord (hash q &&& 65535#32))) (Ideal.ofBits .f32 (rWord (hash q >>> 16))))
      = (weight q : EReal) := by
  rw [low_eq, high_eq, hash_low, hash_high, rWord_eq, rWord_eq, ← EReal.coe_add, weight, hash_low, hash_high]

/-- The factor that the kernel multiplies in at the end. -/
theorem ofBits_scale : Ideal.ofBits .f32 0x77800000#32 = ((2 ^ 112 : ℝ) : EReal) := by
  rw [f32_of_fields (0x77800000#32) false 239 0 (by decide) (by decide) (by decide) (by decide) (by decide)]
  congr 1
  norm_num

/-! ## The states -/

/-- State `f` of a word `w` followed by the word `n`: sixteen bits of the two, from bit `2 f` on. -/
def state (f : Nat) (w n : BitVec 16) : BitVec 32 := ((w ++ n) <<< (2 * f)) >>> 16

/-- The pair of words that the kernel makes of the low halves, and of the high halves. -/
theorem pair_low (w v w' v' : BitVec 16) : ((v ++ w) <<< 16) ||| ((v' ++ w') &&& 65535#32) = (w ++ w' : BitVec 32) := by
  apply BitVec.eq_of_getLsbD_eq
  intro i hi
  have hi' : i < 32 := hi
  rw [BitVec.getLsbD_or, BitVec.getLsbD_and, mask_low ⟨i, hi'⟩]
  simp only [BitVec.getLsbD_shiftLeft, BitVec.getLsbD_append]
  by_cases h : i < 16
  · simp [h]
  · have e : i - 16 < 16 := by omega
    simp [h, e, hi']

theorem pair_high (w v w' v' : BitVec 16) : ((v ++ w) &&& 4294901760#32) ||| ((v' ++ w') >>> 16) = (v ++ v' : BitVec 32) := by
  apply BitVec.eq_of_getLsbD_eq
  intro i hi
  have hi' : i < 32 := hi
  rw [BitVec.getLsbD_or, BitVec.getLsbD_and, mask_high ⟨i, hi'⟩]
  simp only [BitVec.getLsbD_ushiftRight, BitVec.getLsbD_append]
  by_cases h : i < 16
  · have e : ¬ (16 ≤ i) := by omega
    simp [h, e]
  · have e : 16 ≤ i := by omega
    have e2 : v'.getLsbD i = false := BitVec.getLsbD_of_ge _ _ e
    simp [h, e, e2]

/-- The reference's state: the word's bits shifted up, the next word's shifted down, and the low sixteen kept. -/
theorem state_eq (f : Nat) (hf : f < 8) (w n : BitVec 16) :
    state f w n = ((w.setWidth 32 <<< (2 * f)) ||| (n.setWidth 32 >>> (16 - 2 * f))) &&& 65535#32 := by
  unfold state
  apply BitVec.eq_of_getLsbD_eq
  intro i hi
  have hi' : i < 32 := hi
  rw [BitVec.getLsbD_and, mask_low ⟨i, hi'⟩]
  simp only [BitVec.getLsbD_or, BitVec.getLsbD_shiftLeft, BitVec.getLsbD_ushiftRight, BitVec.getLsbD_append, BitVec.getLsbD_setWidth]
  by_cases h : i < 16
  · by_cases h2 : i < 2 * f
    · have e1 : 16 + i - 2 * f < 16 := by omega
      have e2 : ¬ (16 + i < 2 * f) := by omega
      have e3 : 16 + i - 2 * f = 16 - 2 * f + i := by omega
      have e4 : 16 - 2 * f + i < 32 := by omega
      have e5 : 16 - 2 * f + i < 16 := by omega
      have e6 : 16 + i < 32 := by omega
      simp [h, h2, e2, e3, e4, e5, e6]
    · have e1 : ¬ (16 + i - 2 * f < 16) := by omega
      have e2 : ¬ (16 + i < 2 * f) := by omega
      have e3 : 16 + i - 2 * f - 16 = i - 2 * f := by omega
      have e4 : i - 2 * f < 32 := by omega
      have e5 : n.getLsbD (16 - 2 * f + i) = false := BitVec.getLsbD_of_ge _ _ (by omega)
      have e6 : 16 + i < 32 := by omega
      simp [h, h2, e1, e2, e3, e4, e5, e6, hi']
  · have e : ¬ (16 + i < 32) := by omega
    simp [h, e]

/-- State 0 is the word. -/
theorem state_zero (w n : BitVec 16) : state 0 w n = w.setWidth 32 := by
  unfold state
  apply BitVec.eq_of_getLsbD_eq
  intro i hi
  have hi' : i < 32 := hi
  simp only [BitVec.getLsbD_shiftLeft, BitVec.getLsbD_ushiftRight, BitVec.getLsbD_append, BitVec.getLsbD_setWidth]
  by_cases h : i < 16
  · have e6 : 16 + i < 32 := by omega
    simp [h, e6, hi']
  · have e : ¬ (16 + i < 32) := by omega
    have e5 : w.getLsbD i = false := BitVec.getLsbD_of_ge _ _ (by omega)
    simp [h, e, e5]

end Cert.Decode
-- ==== Proof.LinearSpec.lean ====
/- What the linear call computes. Output column `o` of row `s` is first the sum over the eight fields `f` and the 896 code words `k`
   of input column `8 k + f` times the weight decoded from field `f` of word `k`, times the column's scale; then each block of 1024
   output columns is multiplied by the Hadamard matrix, scaled by two to the minus five, and multiplied by the column's sign. -/
module

public import proofs.«01_k».proof.Proof.Hadamard
public import proofs.«01_k».proof.Proof.Decode
public import proofs.«01_k».proof.LinearIdeal

@[expose] public section

noncomputable section

namespace Cert.LinearSpec

open Cert.LinearIdeal Cert.Hadamard Cert.Decode Idealize.ShloMosaic

/-- The code word after `k` in its group of 32, which is a ring. -/
def nextWord (k : Fin 896) : Fin 896 := ⟨k.val / 32 * 32 + (k.val % 32 + 1) % 32, by omega⟩

/-- The weight of output column `o` decoded from field `f` of code word `k`. -/
def wt (w : S18432x896.Idx → BitVec 16) (o : Fin 18432) (f : Fin 8) (k : Fin 896) : ℝ :=
  weight (state f.val (w (ValueIdx.ix2 o k)) (w (ValueIdx.ix2 o (nextWord k))))

/-- The product of row `s` of the inputs by the weights of output column `o`. -/
def lin (x : S256x7168.Idx → ℝ) (w : S18432x896.Idx → BitVec 16) (s : Fin 256) (o : Fin 18432) : ℝ :=
  ∑ f : Fin 8, ∑ k : Fin 896, x (ValueIdx.ix2 s (⟨8 * k.val + f.val, by omega⟩ : Fin 7168)) * wt w o f k

/-- The result. -/
def linear (x : S256x7168.Idx → ℝ) (w : S18432x896.Idx → BitVec 16) (rs : S18432.Idx → ℝ) (sv : S18432.Idx → EReal) :
    S256x18432.Idx → EReal := fun i =>
  have h : (i 1).val < 18432 := (i 1).isLt
  (((∑ n : Fin 1024, lin x w (i 0) ⟨1024 * ((i 1).val / 1024) + n.val, by omega⟩
      * rs (ValueIdx.ix1 ⟨1024 * ((i 1).val / 1024) + n.val, by omega⟩) * had n.val ((i 1).val % 1024)) * (1 / 32) : ℝ) : EReal)
    * sv (ValueIdx.ix1 (i 1))

/-- The same at row `t` and column `j` of block `g`. -/
theorem linear_apply (x : S256x7168.Idx → ℝ) (w : S18432x896.Idx → BitVec 16) (rs : S18432.Idx → ℝ) (sv : S18432.Idx → EReal)
    (i : S256x18432.Idx) (g : Nat) (t : Fin 256) (j : Fin 1024) (hg : g < 18) (h0 : i 0 = t) (h1 : (i 1).val = 1024 * g + j.val) :
    linear x w rs sv i = (((∑ n : Fin 1024, lin x w t ⟨1024 * g + n.val, by omega⟩
      * rs (ValueIdx.ix1 ⟨1024 * g + n.val, by omega⟩) * had n.val j.val) * (1 / 32) : ℝ) : EReal)
      * sv (ValueIdx.ix1 ⟨1024 * g + j.val, by omega⟩) := by
  have d1 : (i 1).val / 1024 = g := by omega
  have m1 : (i 1).val % 1024 = j.val := by omega
  have e1 : i 1 = (⟨1024 * g + j.val, by omega⟩ : Fin 18432) := Fin.ext h1
  subst h0
  subst d1
  unfold linear
  rw [m1]
  rw [← e1]

/-- A column's field and code word. -/
def cols : Fin 7168 ≃ Fin 8 × Fin 896 where
  toFun c := (⟨c.val / 128 % 8, by omega⟩, ⟨c.val / 1024 * 128 + c.val % 128, by omega⟩)
  invFun p := ⟨1024 * (p.2.val / 128) + 128 * p.1.val + p.2.val % 128, by omega⟩
  left_inv c := Fin.ext (by dsimp only; omega)
  right_inv p := Prod.ext (Fin.ext (by dsimp only; omega)) (Fin.ext (by dsimp only; omega))

/-- A sum over the permuted columns, by field and code word. -/
theorem sum_cols (g : Fin 7168 → ℝ) : ∑ c, g c = ∑ f : Fin 8, ∑ k : Fin 896, g (cols.symm (f, k)) := by
  rw [← Fintype.sum_prod_type' (fun f k => g (cols.symm (f, k)))]
  exact (Equiv.sum_comp cols.symm g).symm

end Cert.LinearSpec

end
-- ==== Proof.LinearField.lean ====
/- What one trip of the kernel's decoding loop computes, over the extended reals. A trip reads 16 rows of 128 code words and stores
   eight slabs of 16 rows of 128 weights. Slab `f` holds, at row `r` and lane `l`, the weight of state `f` of the word at (r, l) and
   the word after it in its group of 32 lanes, divided by `2 ^ 112` (`field_apply`). -/
module

public import proofs.«01_k».proof.Proof.Decode
public import proofs.«01_k».proof.Proof.Gen.LinearIdeal.Loops
public import Idealize.ShloMosaic.Lib.Pipeline.ValueKit.Point
public import Idealize.ShloMosaic.Lib.ValueIdxCoords
public import Idealize.ShloMosaic.Lib.BitcastPair
public import Idealize.ShloMosaic.Lib.KernelVsHost

@[expose] public section

noncomputable section

namespace Cert.LinearIdeal.Weights

open Cert.LinearIdeal Cert.LinearIdeal.Gen Cert.Decode Idealize.ShloMosaic Idealize.ShloMosaic.TcCoe

/-! ## The words -/

/-- The lane after `l` in its group of 32, which is a ring. -/
def next (l : Fin 128) : Fin 128 := ⟨l.val / 32 * 32 + (l.val % 32 + 1) % 32, by omega⟩

/-- Of the rotations by 31 and by 127, the mask chooses the one that reads the next lane of the group. -/
theorem mask_apply (q : Fin 8) (l : Fin 128) :
    k0_pay1 (ValueIdx.ix2 q l) = if l.val % 32 = 31 then 1#1 else 0#1 := by
  have key : ∀ l : Fin 128, IntOp.cmpi .eq (IntOp.andi (BitVec.ofNat 32 l.val) 31#32) 31#32 = if l.val % 32 = 31 then 1#1 else 0#1 := by
    decide +kernel
  have h1 : iota .tc S8x128 32 [1] iota_S8x128_d1_w32 (ValueIdx.ix2 q l) = BitVec.ofNat 32 l.val := by
    show BitVec.ofNat 32 (0 * 128 + l.val) = _; rw [Nat.zero_mul, Nat.zero_add]
  rw [← key l, ← h1]
  rfl

theorem select_one {α : Type} (a b : α) : Scalar.select 1#1 a b = a := rfl
theorem select_zero {α : Type} (a b : α) : Scalar.select 0#1 a b = b := rfl

variable (x : Vec Ideal S16x128 .i16)

/-- Row `2 q` and row `2 q + 1` of a trip's sixteen. -/
abbrev lo (q : Fin 8) : Fin 16 := ⟨2 * q.val, by omega⟩
abbrev hi (q : Fin 8) : Fin 16 := ⟨2 * q.val + 1, by omega⟩

/-- A 32-bit word holds the words of two rows, the odd row's in the high half. -/
theorem words_apply (q : Fin 8) (l : Fin 128) :
    k0_pay8 x (ValueIdx.ix2 q l) = (x (ValueIdx.ix2 (hi q) l) : BitVec 16) ++ (x (ValueIdx.ix2 (lo q) l) : BitVec 16) := by
  refine (bitcast_16_32 (s := S16x128) (t := S8x128) x bitcasts_S16x128_w16_S8x128_w32 (ValueIdx.ix2 q l)).trans ?_
  refine congrArg₂ (fun a b : BitVec 16 => a ++ b) (congrArg x ?_) (congrArg x ?_) <;>
  · funext a
    match a with
    | ⟨0, _⟩ => exact Fin.ext rfl
    | ⟨1, _⟩ => exact Fin.ext rfl

theorem next_apply (q : Fin 8) (l : Fin 128) : k0_pay9 k0_pay1 x (ValueIdx.ix2 q l) = k0_pay8 x (ValueIdx.ix2 q (next l)) := by
  show Scalar.select (k0_pay1 (ValueIdx.ix2 q l)) (dynamicRotate 1 31#32 none (k0_pay8 x) rotates_S8x128_d1 (ValueIdx.ix2 q l))
    (dynamicRotate 1 127#32 none (k0_pay8 x) rotates_S8x128_d1 (ValueIdx.ix2 q l)) = _
  have hl := l.isLt
  have hn : (next l).val = l.val / 32 * 32 + (l.val % 32 + 1) % 32 := rfl
  rw [mask_apply]
  by_cases h : l.val % 32 = 31
  · rw [if_pos h]
    refine (select_one _ _).trans (dynamicRotate_apply _ _ _ _ _ (ValueIdx.ix2 q (next l)) fun b => ?_)
    match b with
    | ⟨0, _⟩ => rfl
    | ⟨1, _⟩ => show (next l).val = (l.val + 128 - 31 % 128) % 128; omega
  · rw [if_neg h]
    refine (select_zero _ _).trans (dynamicRotate_apply _ _ _ _ _ (ValueIdx.ix2 q (next l)) fun b => ?_)
    match b with
    | ⟨0, _⟩ => rfl
    | ⟨1, _⟩ => show (next l).val = (l.val + 128 - 127 % 128) % 128; omega

/-- The pairs of words: an even row's word and the next, an odd row's word and the next. -/
theorem even_apply (q : Fin 8) (l : Fin 128) :
    k0_pay10 k0_pay1 x (ValueIdx.ix2 q l) = (x (ValueIdx.ix2 (lo q) l) : BitVec 16) ++ (x (ValueIdx.ix2 (lo q) (next l)) : BitVec 16) := by
  refine Eq.trans ?_ (pair_low (x (ValueIdx.ix2 (lo q) l)) (x (ValueIdx.ix2 (hi q) l)) (x (ValueIdx.ix2 (lo q) (next l)))
    (x (ValueIdx.ix2 (hi q) (next l))))
  rw [← words_apply, ← words_apply, ← next_apply]
  rfl

theorem odd_apply (q : Fin 8) (l : Fin 128) :
    k0_pay11 k0_pay1 x (ValueIdx.ix2 q l) = (x (ValueIdx.ix2 (hi q) l) : BitVec 16) ++ (x (ValueIdx.ix2 (hi q) (next l)) : BitVec 16) := by
  refine Eq.trans ?_ (pair_high (x (ValueIdx.ix2 (lo q) l)) (x (ValueIdx.ix2 (hi q) l)) (x (ValueIdx.ix2 (lo q) (next l)))
    (x (ValueIdx.ix2 (hi q) (next l))))
  rw [← words_apply, ← words_apply, ← next_apply]
  rfl

/-! ## The slabs -/

theorem shl_apply (f : Fin 8) (x : BitVec 32) : IntOp.shli .vector x (BitVec.ofNat 32 (2 * f.val)) = x <<< (2 * f.val) := by
  have h : ∀ f : Fin 8, (BitVec.ofNat 32 (2 * f.val)).toNat = 2 * f.val := by decide +kernel
  have hf := f.isLt
  unfold IntOp.shli
  rw [if_pos (by rw [h]; omega), BitVec.shiftLeft_eq', h]

theorem shl16_apply (x : BitVec 32) : IntOp.shli .vector x 16#32 = x <<< 16 := by
  unfold IntOp.shli; rw [if_pos (by decide), BitVec.shiftLeft_eq']; rfl

theorem shr16_apply (x : BitVec 32) : IntOp.shrui .vector x 16#32 = x >>> 16 := by
  unfold IntOp.shrui; rw [if_pos (by decide), BitVec.ushiftRight_eq']; rfl

theorem sar3_apply (x : BitVec 32) : IntOp.shrsi .vector x 3#32 = x.sshiftRight 3 := by
  unfold IntOp.shrsi; rw [if_pos (by decide), BitVec.sshiftRight_eq']; rfl

/-- The kernel's hash of a vector of states. -/
def hashed (q : IVec S8x128 32) : IVec S8x128 32 :=
  xori (andi (addi (muli q (broadcast S8x128 89226354#32)) (broadcast S8x128 64248484#32)) (broadcast S8x128 2415890431#32))
    (broadcast S8x128 996162400#32)

/-- The kernel's reading of a vector of states. -/
def decoded (q : IVec S8x128 32) : FVec Ideal S8x128 .f32 :=
  addf (bitcastToFloat .f32 (andi (shrsi (hashed q) (broadcast S8x128 3#32)) (broadcast S8x128 2415910912#32)))
    (bitcastToFloat .f32 (andi (shrsi (shli (hashed q) (broadcast S8x128 16#32)) (broadcast S8x128 3#32)) (broadcast S8x128 2415919103#32)))

theorem hashed_apply (q : IVec S8x128 32) (i : S8x128.Idx) : hashed q i = Decode.hash (q i) := by
  unfold hashed Decode.hash
  pointwise []
  rfl

theorem kHi_apply (y : BitVec 32) : IntOp.andi (IntOp.shrsi .vector y 3#32) 2415910912#32 = kHi y := by
  rw [sar3_apply]; rfl

theorem kLo_apply (y : BitVec 32) : IntOp.andi (IntOp.shrsi .vector (IntOp.shli .vector y 16#32) 3#32) 2415919103#32 = kLo y := by
  rw [shl16_apply, sar3_apply]; rfl

theorem sum_apply (a b : IVec S8x128 32) (i : S8x128.Idx) :
    addf (F := Ideal) (bitcastToFloat .f32 a) (bitcastToFloat .f32 b) i
      = @HAdd.hAdd EReal EReal EReal _ (Ideal.ofBits .f32 (a i)) (Ideal.ofBits .f32 (b i)) := rfl

theorem decoded_apply (q : IVec S8x128 32) (i : S8x128.Idx) : decoded q i = ((weight (q i) / 2 ^ 112 : ℝ) : EReal) := by
  have ha : andi (shrsi (hashed q) (broadcast S8x128 3#32)) (broadcast S8x128 2415910912#32) i = kHi (Decode.hash (q i)) :=
    (kHi_apply (hashed q i)).trans (congrArg kHi (hashed_apply q i))
  have hb : andi (shrsi (shli (hashed q) (broadcast S8x128 16#32)) (broadcast S8x128 3#32)) (broadcast S8x128 2415919103#32) i
      = kLo (Decode.hash (q i)) := (kLo_apply (hashed q i)).trans (congrArg kLo (hashed_apply q i))
  unfold decoded
  rw [sum_apply, ha, hb]
  exact kval_eq (q i)

/-- The states of a vector of pairs. -/
def states (f : Nat) (p : IVec S8x128 32) : IVec S8x128 32 :=
  shrui (shli p (broadcast S8x128 (BitVec.ofNat 32 (2 * f)))) (broadcast S8x128 16#32)

theorem states_apply (f : Fin 8) (p : IVec S8x128 32) (i : S8x128.Idx) : states f.val p i = (p i <<< (2 * f.val)) >>> 16 := by
  show IntOp.shrui .vector (IntOp.shli .vector (p i) (BitVec.ofNat 32 (2 * f.val))) 16#32 = _
  rw [shl_apply, shr16_apply]

/-- Two vectors of states, read, rounded, and interleaved by rows. -/
def slab (p q : IVec S8x128 32) : FVec Ideal S16x128 .bf16 :=
  interleaveRows S16x128 (truncf .bf16 (decoded p) bitsLt_bf16_f32) (truncf .bf16 (decoded q) bitsLt_bf16_f32)
    bitcasts_S16x128_w16_S8x128_w32

/-- Slab `f` of a trip: the even rows' and the odd rows' states. -/
def field (f : Nat) : FVec Ideal S16x128 .bf16 := slab (states f (k0_pay10 k0_pay1 x)) (states f (k0_pay11 k0_pay1 x))

/-- Slab `f` at row `r` and lane `l`. -/
theorem field_apply (f : Fin 8) (r : Fin 16) (l : Fin 128) :
    field x f.val (ValueIdx.ix2 r l)
      = ((weight (state f.val (x (ValueIdx.ix2 r l)) (x (ValueIdx.ix2 r (next l)))) / 2 ^ 112 : ℝ) : EReal) := by
  have hr := r.isLt
  pointwise [field, slab]
  by_cases h : r.val % 2 = 0
  · have e : lo ⟨r.val / 2, by omega⟩ = r := Fin.ext (by show 2 * (r.val / 2) = _; omega)
    simp only [h, if_true]
    refine (decoded_apply _ (ValueIdx.ix2 ⟨r.val / 2, by omega⟩ l)).trans ?_
    rw [states_apply, even_apply, e]
    rfl
  · have e : hi ⟨r.val / 2, by omega⟩ = r := Fin.ext (by show 2 * (r.val / 2) + 1 = _; omega)
    simp only [h, if_false]
    refine (decoded_apply _ (ValueIdx.ix2 ⟨r.val / 2, by omega⟩ l)).trans ?_
    rw [states_apply, odd_apply, e]
    rfl

/-! ## The stored payloads -/

theorem states_zero (p : IVec S8x128 32) : states 0 p = shrui p (broadcast S8x128 16#32) := by
  funext i
  show IntOp.shrui .vector (IntOp.shli .vector (p i) (BitVec.ofNat 32 (2 * (0 : Fin 8).val))) 16#32 = IntOp.shrui .vector (p i) 16#32
  rw [shl_apply]
  exact congrArg (fun y : BitVec 32 => IntOp.shrui .vector y 16#32) (BitVec.shiftLeft_zero (p i))

theorem slab_cast (p q : IVec S8x128 32) (h : S16x128.ShapeCasts S16x128) : shapeCast S16x128 (slab p q) h = slab p q := shapeCast_self _ _

theorem field0 : k0_pay15 (F := Ideal) (k0_pay11 k0_pay1 x) (k0_pay13 k0_pay1 x) (k0_pay14 k0_pay1 x) = field x 0 := by
  unfold field
  rw [states_zero, states_zero]
  exact slab_cast _ _ _
theorem field1 : k0_pay21 (F := Ideal) (k0_pay17 (k0_pay16 (k0_pay10 k0_pay1 x))) (k0_pay19 (k0_pay11 k0_pay1 x))
    (k0_pay20 (k0_pay11 k0_pay1 x)) = field x 1 := slab_cast _ _ _
theorem field2 : k0_pay23 (F := Ideal) (k0_pay11 k0_pay1 x) (k0_pay22 (k0_pay10 k0_pay1 x)) = field x 2 := slab_cast _ _ _
theorem field3 : k0_pay29 (F := Ideal) (k0_pay25 (k0_pay24 (k0_pay10 k0_pay1 x))) (k0_pay27 (k0_pay11 k0_pay1 x))
    (k0_pay28 (k0_pay11 k0_pay1 x)) = field x 3 := slab_cast _ _ _
theorem field4 : k0_pay32 (F := Ideal) (k0_pay30 (k0_pay10 k0_pay1 x)) (k0_pay31 (k0_pay11 k0_pay1 x)) = field x 4 := slab_cast _ _ _
theorem field5 : k0_pay35 (F := Ideal) (k0_pay34 (k0_pay11 k0_pay1 x) (k0_pay33 (k0_pay10 k0_pay1 x))) = field x 5 := slab_cast _ _ _
theorem field6 : k0_pay38 (F := Ideal) (k0_pay36 (k0_pay10 k0_pay1 x)) (k0_pay37 (k0_pay11 k0_pay1 x)) = field x 6 := slab_cast _ _ _
theorem field7 : k0_pay2 (F := Ideal) (k0_pay41 (k0_pay11 k0_pay1 x) (k0_pay39 (k0_pay10 k0_pay1 x)) (k0_pay40 (k0_pay10 k0_pay1 x)))
    = field x 7 := slab_cast _ _ _

end Cert.LinearIdeal.Weights
-- ==== Proof.LinearWeights.lean ====
/- What the kernel's decoding loop leaves in its buffer of weights, over the extended reals: at row `o` and column
   `(8 j + f) 128 + l` the weight of state `f` of the word at (o, 128 j + l) and the next word of its group of 32,
   divided by `2 ^ 112`. -/
module

public import proofs.«01_k».proof.Proof.LinearField
public import Idealize.ShloMosaic.Lib.Tactic
public import Idealize.ShloMosaic.Lib.Pipeline.ValueKit.Tiles

@[expose] public section

noncomputable section

namespace Cert.LinearIdeal.Weights

open Cert.LinearIdeal Cert.LinearIdeal.Gen Cert.Decode Idealize.ShloMosaic Idealize.ShloMosaic.TcCoe Idealize.ShloMosaic.Tactic

/-- Column `128 j + l` of the words. -/
abbrev word (j : Fin 7) (l : Fin 128) : Fin 896 := ⟨128 * j.val + l.val, by omega⟩

/-- The weights of a block of 256 outputs. -/
def wmat (x1 : Vec Ideal S256x896 .i16) : Vec Ideal S256x7168 .bf16 := fun i =>
  have h1 : (i 1).val < 7168 := (i 1).isLt
  ((weight (state ((i 1).val / 128 % 8)
    (x1 (ValueIdx.ix2 (i 0) (word ⟨(i 1).val / 1024, by omega⟩ ⟨(i 1).val % 128, Nat.mod_lt _ (by decide)⟩)))
    (x1 (ValueIdx.ix2 (i 0) (word ⟨(i 1).val / 1024, by omega⟩ (next ⟨(i 1).val % 128, Nat.mod_lt _ (by decide)⟩))))) / 2 ^ 112 : ℝ) : EReal)

theorem wmat_apply (x1 : Vec Ideal S256x896 .i16) (o : Fin 256) (j : Fin 7) (f : Fin 8) (l : Fin 128) (i : S256x7168.Idx)
    (h0 : (i 0).val = o.val) (h1 : (i 1).val = 1024 * j.val + 128 * f.val + l.val) :
    wmat x1 i = ((weight (state f.val (x1 (ValueIdx.ix2 o (word j l))) (x1 (ValueIdx.ix2 o (word j (next l))))) / 2 ^ 112 : ℝ) : EReal) := by
  have hf := f.isLt
  have hl := l.isLt
  have hj := j.isLt
  have e0 : i 0 = o := Fin.ext h0
  have ef : (i 1).val / 128 % 8 = f.val := by omega
  have ej : ∀ h, (⟨(i 1).val / 1024, h⟩ : Fin 7) = j := fun h => Fin.ext (by show (i 1).val / 1024 = _; omega)
  have el : ∀ h, (⟨(i 1).val % 128, h⟩ : Fin 128) = l := fun h => Fin.ext (by show (i 1).val % 128 = _; omega)
  unfold wmat
  simp only [e0, ef, ej, el]

theorem trips_eq : k0_t1_loop.trips = 112 := by decide +kernel

/-- The rectangle of slab `f` of trip `k`. -/
abbrev rect (k : Fin k0_t1_loop.trips) (f : Fin 8) : Rect S256x7168 :=
  Rect.unit (k0_off2 k (BitVec.ofNat 32 f.val)) S16x128.size (k0_off2_inb k f)

/-- The rectangle of the words of trip `k`. -/
abbrev wrect (k : Fin k0_t1_loop.trips) : Rect S256x896 := Rect.unit (k0_off1 k) S16x128.size (k0_off1_inb k)

variable (𝒱 : Variants) (c : Dev nD) (bd : Option 𝒱.V) (i : grid0.Coords)
  (arg2 : Memref sig .tc .vmem S256x7168 .bf16) (harg2 : arg2.IsWhole) (arg3 : Memref sig .tc .vmem S256x896 .i16) (harg3 : arg3.IsWhole)
  (arg4 : Memref sig .tc .vmem S1x256 .f32) (harg4 : arg4.IsWhole) (arg5 : Memref sig .tc .vmem S1x1024 .f32) (harg5 : arg5.IsWhole)
  (arg6 : Memref sig .tc .vmem S256x1024 .bf16) (harg6 : arg6.IsWhole) (arg7 : Memref sig .tc .vmem S256x7168 .bf16) (harg7 : arg7.IsWhole)
  (arg8 : Memref sig .tc .vmem S4x256x256 .f32) (harg8 : arg8.IsWhole)

/-- One slab of one trip as a write. -/
def pc (x1 : Vec Ideal S256x896 .i16) (k : Fin k0_t1_loop.trips) (f : Fin 8) : View.Piece (Elt Ideal) S256x7168 .bf16 :=
  ⟨rect k f, field (View.ld x1 (wrect k)) f.val⟩

theorem pc_apply (x1 : Vec Ideal S256x896 .i16) (k : Fin k0_t1_loop.trips) (f : Fin 8) (x : (pc x1 k f).1.shape.Idx) :
    (pc x1 k f).2 x = wmat x1 ((pc x1 k f).1.emb x) := by
  have hk : k.val < 112 := Nat.lt_of_lt_of_eq k.isLt trips_eq
  have hf := f.isLt
  obtain ⟨r, l, rfl⟩ : ∃ (r : Fin 16) (l : Fin 128), x = ValueIdx.ix2 r l := ⟨x 0, x 1, by blk_ext!⟩
  have hr := r.isLt
  have hl := l.isLt
  have hn : (next l).val < 128 := (next l).isLt
  refine (field_apply (View.ld x1 (wrect k)) f r l).trans ?_
  have ho1 := k0_off1_eq k
  have ho2 := k0_off2_eq k f
  have hld : ∀ l' : Fin 128, View.ld x1 (wrect k) (ValueIdx.ix2 r l')
      = x1 (ValueIdx.ix2 (⟨16 * (k.val % 16) + r.val, by omega⟩ : Fin 256) (word ⟨k.val / 16, by omega⟩ l')) := fun l' => by
    refine View.ld_unit_apply_of _ _ _ _ _ _ fun a => ?_
    refine Eq.trans ?_ (congrArg (· + _) (congrFun ho1 a)).symm
    match a with
    | ⟨0, _⟩ => rfl
    | ⟨1, _⟩ => show 128 * (k.val / 16) + l'.val = _; rfl
  rw [hld, hld]
  refine (wmat_apply x1 ⟨16 * (k.val % 16) + r.val, by omega⟩ ⟨k.val / 16, by omega⟩ f l _ ?_ ?_).symm
  · refine (Rect.idx_unit_val _ _ (k0_off2_inb k f) _ 0).trans ?_
    exact congrArg (· + r.val) (congrFun ho2 0)
  · refine (Rect.idx_unit_val _ _ (k0_off2_inb k f) _ 1).trans ?_
    exact congrArg (· + l.val) (congrFun ho2 1)

/-- A trip writes its eight slabs. -/
theorem tripL_eq (X : BufTy.Contents (Elt Ideal) arg3.view.ty) (k : Fin k0_t1_loop.trips) :
    tripL_k0_t1 (F := Ideal) 𝒱 c bd i arg2 harg2 arg3 harg3 arg4 harg4 arg5 harg5 arg6 harg6 arg7 harg7 arg8 harg8 X k
      = [pc (arg3.view.read (Elt Ideal) X) k 7, pc (arg3.view.read (Elt Ideal) X) k 6, pc (arg3.view.read (Elt Ideal) X) k 5,
          pc (arg3.view.read (Elt Ideal) X) k 4, pc (arg3.view.read (Elt Ideal) X) k 3, pc (arg3.view.read (Elt Ideal) X) k 2,
          pc (arg3.view.read (Elt Ideal) X) k 1, pc (arg3.view.read (Elt Ideal) X) k 0] := by
  have e := fun f => show pc (arg3.view.read (Elt Ideal) X) k f = ⟨rect k f, field (View.ld (arg3.view.read (Elt Ideal) X) (wrect k)) f.val⟩ from rfl
  rw [e 7, e 6, e 5, e 4, e 3, e 2, e 1, e 0]
  have f7 := field7 (View.ld (arg3.view.read (Elt Ideal) X) (wrect k))
  have f6 := field6 (View.ld (arg3.view.read (Elt Ideal) X) (wrect k))
  have f5 := field5 (View.ld (arg3.view.read (Elt Ideal) X) (wrect k))
  have f4 := field4 (View.ld (arg3.view.read (Elt Ideal) X) (wrect k))
  have f3 := field3 (View.ld (arg3.view.read (Elt Ideal) X) (wrect k))
  have f2 := field2 (View.ld (arg3.view.read (Elt Ideal) X) (wrect k))
  have f1 := field1 (View.ld (arg3.view.read (Elt Ideal) X) (wrect k))
  have f0 := field0 (View.ld (arg3.view.read (Elt Ideal) X) (wrect k))
  refine Eq.trans ?_ (congrArg₂ List.cons (congrArg (Sigma.mk (rect k 7)) f7) <|
    congrArg₂ List.cons (congrArg (Sigma.mk (rect k 6)) f6) <| congrArg₂ List.cons (congrArg (Sigma.mk (rect k 5)) f5) <|
    congrArg₂ List.cons (congrArg (Sigma.mk (rect k 4)) f4) <| congrArg₂ List.cons (congrArg (Sigma.mk (rect k 3)) f3) <|
    congrArg₂ List.cons (congrArg (Sigma.mk (rect k 2)) f2) <| congrArg₂ List.cons (congrArg (Sigma.mk (rect k 1)) f1) <|
    congrArg₂ List.cons (congrArg (Sigma.mk (rect k 0)) f0) rfl)
  unfold tripL_k0_t1 trip_k0_t1
  rfl

/-- Every write of the loop agrees with the weights, -/
theorem pb_apply (X : BufTy.Contents (Elt Ideal) arg3.view.ty) : ∀ n : ℕ, n ≤ k0_t1_loop.trips →
    ∀ p ∈ pb_k0_t1 (F := Ideal) 𝒱 c bd i arg2 harg2 arg3 harg3 arg4 harg4 arg5 harg5 arg6 harg6 arg7 harg7 arg8 harg8 X n,
      ∀ x : p.1.shape.Idx, p.2 x = wmat (arg3.view.read (Elt Ideal) X) (p.1.emb x)
  | 0, _, p, hp => absurd hp List.not_mem_nil
  | n + 1, hn, p, hp => by
    rw [pb_k0_t1_succ 𝒱 c bd i arg2 harg2 arg3 harg3 arg4 harg4 arg5 harg5 arg6 harg6 arg7 harg7 arg8 harg8 X ⟨n, hn⟩, tripL_eq,
      List.mem_append] at hp
    rcases hp with hp | hp
    · simp only [List.mem_cons, List.not_mem_nil, or_false] at hp
      rcases hp with rfl | rfl | rfl | rfl | rfl | rfl | rfl | rfl <;> exact pc_apply _ _ _
    · exact pb_apply X n (Nat.le_of_succ_le hn) p hp

/-- and trip `k` writes its slabs. -/
theorem mem_pb (X : BufTy.Contents (Elt Ideal) arg3.view.ty) (k : Fin k0_t1_loop.trips) (f : Fin 8) : ∀ n : ℕ, k.val < n → n ≤ k0_t1_loop.trips →
    pc (arg3.view.read (Elt Ideal) X) k f
      ∈ pb_k0_t1 (F := Ideal) 𝒱 c bd i arg2 harg2 arg3 harg3 arg4 harg4 arg5 harg5 arg6 harg6 arg7 harg7 arg8 harg8 X n
  | 0, h, _ => absurd h (Nat.not_lt_zero _)
  | n + 1, h, hn => by
    rw [pb_k0_t1_succ 𝒱 c bd i arg2 harg2 arg3 harg3 arg4 harg4 arg5 harg5 arg6 harg6 arg7 harg7 arg8 harg8 X ⟨n, hn⟩, tripL_eq,
      List.mem_append]
    rcases Nat.lt_succ_iff_lt_or_eq.mp h with h | h
    · exact Or.inr (mem_pb X k f n h (Nat.le_of_succ_le hn))
    · refine Or.inl ?_
      obtain rfl : k = ⟨n, hn⟩ := Fin.ext h
      simp only [List.mem_cons, List.not_mem_nil, or_false]
      match f with
      | ⟨0, _⟩ => exact Or.inr <| Or.inr <| Or.inr <| Or.inr <| Or.inr <| Or.inr <| Or.inr rfl
      | ⟨1, _⟩ => exact Or.inr <| Or.inr <| Or.inr <| Or.inr <| Or.inr <| Or.inr <| Or.inl rfl
      | ⟨2, _⟩ => exact Or.inr <| Or.inr <| Or.inr <| Or.inr <| Or.inr <| Or.inl rfl
      | ⟨3, _⟩ => exact Or.inr <| Or.inr <| Or.inr <| Or.inr <| Or.inl rfl
      | ⟨4, _⟩ => exact Or.inr <| Or.inr <| Or.inr <| Or.inl rfl
      | ⟨5, _⟩ => exact Or.inr <| Or.inr <| Or.inl rfl
      | ⟨6, _⟩ => exact Or.inr <| Or.inl rfl
      | ⟨7, _⟩ => exact Or.inl rfl

/-- The slabs cover the buffer. -/
theorem cover (X : BufTy.Contents (Elt Ideal) arg3.view.ty) (y : S256x7168.Idx) :
    ∃ p ∈ pb_k0_t1 (F := Ideal) 𝒱 c bd i arg2 harg2 arg3 harg3 arg4 harg4 arg5 harg5 arg6 harg6 arg7 harg7 arg8 harg8 X k0_t1_loop.trips,
      y ∈ p.1.set := by
  have h0 : (y 0).val < 256 := (y 0).isLt
  have h1 : (y 1).val < 7168 := (y 1).isLt
  have hk : 16 * ((y 1).val / 1024) + (y 0).val / 16 < k0_t1_loop.trips := by rw [trips_eq]; omega
  refine ⟨_, mem_pb 𝒱 c bd i arg2 harg2 arg3 harg3 arg4 harg4 arg5 harg5 arg6 harg6 arg7 harg7 arg8 harg8 X
    ⟨16 * ((y 1).val / 1024) + (y 0).val / 16, hk⟩ ⟨(y 1).val / 128 % 8, by omega⟩ _ hk (Nat.le_refl _), ?_⟩
  rw [← Rect.map_emb_univ, Finset.mem_map]
  refine ⟨(ValueIdx.ix2 (⟨(y 0).val % 16, by omega⟩ : Fin 16) (⟨(y 1).val % 128, by omega⟩ : Fin 128)), Finset.mem_univ _, ?_⟩
  have ho2 := k0_off2_eq ⟨16 * ((y 1).val / 1024) + (y 0).val / 16, hk⟩ ⟨(y 1).val / 128 % 8, by omega⟩
  funext a
  refine Fin.ext ((Rect.idx_unit_val _ _ (k0_off2_inb _ _) _ a).trans ?_)
  refine (congrArg (· + _) (congrFun ho2 a)).trans ?_
  match a with
  | ⟨0, _⟩ => show 16 * ((16 * ((y 1).val / 1024) + (y 0).val / 16) % 16) + (y 0).val % 16 = (y 0).val; omega
  | ⟨1, _⟩ =>
    show 1024 * ((16 * ((y 1).val / 1024) + (y 0).val / 16) / 16) + 128 * ((y 1).val / 128 % 8) + (y 1).val % 128 = (y 1).val; omega

/-- What the loop leaves in the buffer of weights. -/
theorem weights_eq (X : BufTy.Contents (Elt Ideal) arg3.view.ty) (G : BufTy.Contents (Elt Ideal) arg7.view.ty) :
    arg7.view.read (Elt Ideal) (arg7.view.writes (Elt Ideal) G
      (pb_k0_t1 (F := Ideal) 𝒱 c bd i arg2 harg2 arg3 harg3 arg4 harg4 arg5 harg5 arg6 harg6 arg7 harg7 arg8 harg8 X k0_t1_loop.trips))
      = wmat (arg3.view.read (Elt Ideal) X) :=
  funext fun y => View.read_writes_apply_of_pieces _ _ _ _ (pb_apply 𝒱 c bd i arg2 harg2 arg3 harg3 arg4 harg4 arg5 harg5 arg6 harg6 arg7 harg7 arg8 harg8 X _ (Nat.le_refl _)) y
    (cover 𝒱 c bd i arg2 harg2 arg3 harg3 arg4 harg4 arg5 harg5 arg6 harg6 arg7 harg7 arg8 harg8 X y)

end Cert.LinearIdeal.Weights
-- ==== Proof.LinearBody.lean ====
/- The second call's run over the extended reals, with the result named: what a grid point leaves in the buffer of products,
   what every fourth point leaves in the output block, and the run of all the points. -/
module

public import proofs.«01_k».proof.Proof.Gen.LinearIdeal.Frame
public import proofs.«01_k».proof.Proof.Gen.LinearIdeal.Loops
public import proofs.«01_k».proof.Proof.Gen.LinearIdeal.Skeleton
public import proofs.«01_k».proof.Proof.LinearWeights
public import Idealize.ShloMosaic.Lib.Claim
public import Idealize.ShloMosaic.Lib.Pipeline.ValueKit.Point
public import Idealize.ShloMosaic.Lib.ValueIdxCoords

@[expose] public section

set_option maxRecDepth 16384

noncomputable section

namespace Cert.LinearIdeal.Run

open Cert.LinearIdeal Cert.LinearIdeal.Gen Cert.LinearIdeal.Weights
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x896 .i16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x7168 .bf16 := Memref.whole cc0_scratch0
abbrev scM0_1 : Memref sig .tc .vmem S4x256x256 .f32 := Memref.whole cc0_scratch1

/-! ## What a point leaves -/

/-- The products of a point: the block's 256 outputs, for every token. -/
def zval (x0 : Vec Ideal S256x7168 .bf16) (x1 : Vec Ideal S256x896 .i16) (x2 : Vec Ideal S1x256 .f32) : Vec Ideal S1x256x256 .f32 :=
  k0_pay3 (F := Ideal) x0 (wmat x1) x2

/-- The buffer of products with slab `a` replaced. -/
def put (a : Nat) (z : Vec Ideal S4x256x256 .f32) (v : Vec Ideal S1x256x256 .f32) : Vec Ideal S4x256x256 .f32 := fun y =>
  if (y 0).val = a then v (ValueIdx.ix3 0 (y 1) (y 2)) else z y

/-- The four slabs of the buffer of products. -/
abbrev slab0 (z : Vec Ideal S4x256x256 .f32) : Vec Ideal S1x256x256 .f32 := View.ld z (Rect.unit (s := S4x256x256) ![0, 0, 0] S1x256x256.size inb_S4x256x256_S1x256x256_0_0_0)
abbrev slab1 (z : Vec Ideal S4x256x256 .f32) : Vec Ideal S1x256x256 .f32 := View.ld z (Rect.unit (s := S4x256x256) ![1, 0, 0] S1x256x256.size inb_S4x256x256_S1x256x256_1_0_0)
abbrev slab2 (z : Vec Ideal S4x256x256 .f32) : Vec Ideal S1x256x256 .f32 := View.ld z (Rect.unit (s := S4x256x256) ![2, 0, 0] S1x256x256.size inb_S4x256x256_S1x256x256_2_0_0)
abbrev slab3 (z : Vec Ideal S4x256x256 .f32) : Vec Ideal S1x256x256 .f32 := View.ld z (Rect.unit (s := S4x256x256) ![3, 0, 0] S1x256x256.size inb_S4x256x256_S1x256x256_3_0_0)

/-- The output block's four quarters, from the buffer of products and the signs. -/
def quarters (z : Vec Ideal S4x256x256 .f32) (x3 : Vec Ideal S1x1024 .f32) : List (View.Piece (Elt Ideal) S256x1024 .bf16) :=
  [⟨Rect.unit (s := S256x1024) ![0, 768] S256x256.size inb_S256x1024_S256x256_0_768,
      k0_pay7 (F := Ideal) (k0_pay59 (k0_pay42 (F := Ideal)) (k0_pay53 (slab0 z) (slab1 z) (slab2 z) (slab3 z)))
        (View.ld x3 (Rect.unit (s := S1x1024) ![0, 768] S1x256.size inb_S1x1024_S1x256_0_768))⟩,
    ⟨Rect.unit (s := S256x1024) ![0, 512] S256x256.size inb_S256x1024_S256x256_0_512,
      k0_pay6 (F := Ideal) (k0_pay58 (k0_pay42 (F := Ideal)) (k0_pay52 (slab0 z) (slab1 z) (slab2 z) (slab3 z)))
        (View.ld x3 (Rect.unit (s := S1x1024) ![0, 512] S1x256.size inb_S1x1024_S1x256_0_512))⟩,
    ⟨Rect.unit (s := S256x1024) ![0, 256] S256x256.size inb_S256x1024_S256x256_0_256,
      k0_pay5 (F := Ideal) (k0_pay57 (k0_pay42 (F := Ideal)) (k0_pay51 (slab0 z) (slab1 z) (slab2 z) (slab3 z)))
        (View.ld x3 (Rect.unit (s := S1x1024) ![0, 256] S1x256.size inb_S1x1024_S1x256_0_256))⟩,
    ⟨Rect.unit (s := S256x1024) ![0, 0] S256x256.size inb_S256x1024_S256x256_0_0,
      k0_pay4 (F := Ideal) (k0_pay56 (k0_pay54 (slab0 z) (slab1 z) (slab2 z) (slab3 z)) (k0_pay55 (F := Ideal)))
        (k0_pay60 (View.ld x3 (Rect.unit (s := S1x1024) ![0, 0] S1x256.size inb_S1x1024_S1x256_0_0)))⟩]

/-- The output block. -/
def outv (z : Vec Ideal S4x256x256 .f32) (x3 : Vec Ideal S1x1024 .f32) : Vec Ideal S256x1024 .bf16 := View.canon (quarters z x3)

/-- Storing slab `i 1` replaces it. -/
theorem read_put (arg8 : Memref sig .tc .vmem S4x256x256 .f32) (i : grid0.Coords) (f : BufTy.Contents (Elt Ideal) arg8.view.ty) (v : Vec Ideal S1x256x256 .f32) :
    arg8.view.read (Elt Ideal) (arg8.view.writes (Elt Ideal) f
      [⟨Rect.unit (s := S4x256x256) (k0_off3 i) S1x256x256.size (k0_off3_inb i), v⟩]) = put (i 1).val (arg8.view.read (Elt Ideal) f) v := by
  have ho := k0_off3_eq i
  funext y
  unfold put
  have h0 : (y 0).val < 4 := (y 0).isLt
  have he : ∀ (p q : Fin 256) (a : Fin 3), (((Rect.unit (s := S4x256x256) (k0_off3 i) S1x256x256.size (k0_off3_inb i)).emb (ValueIdx.ix3 (0 : Fin 1) p q)) a).val
      = (![(i 1).val, p.val, q.val] : Fin 3 → ℕ) a := fun p q a => by
    refine (Rect.idx_unit_val (s := S4x256x256) (k0_off3 i) S1x256x256.size (k0_off3_inb i) (ValueIdx.ix3 (0 : Fin 1) p q) a).trans ((congrArg (· + ((ValueIdx.ix3 (0 : Fin 1) p q : S1x256x256.Idx) a).val) (congrFun ho a)).trans ?_)
    match a with
    | ⟨0, _⟩ => rfl
    | ⟨1, _⟩ => show 0 + p.val = p.val; omega
    | ⟨2, _⟩ => show 0 + q.val = q.val; omega
  by_cases h : (y 0).val = (i 1).val
  · rw [if_pos h]
    have hy : (Rect.unit (s := S4x256x256) (k0_off3 i) S1x256x256.size (k0_off3_inb i)).emb (ValueIdx.ix3 (0 : Fin 1) (y 1) (y 2)) = y := by
      funext a
      refine Fin.ext ((he _ _ a).trans ?_)
      match a with
      | ⟨0, _⟩ => exact h.symm
      | ⟨1, _⟩ => rfl
      | ⟨2, _⟩ => rfl
    have hr := View.read_writes_cons_emb (v := arg8.view) (f := f) (Rect.unit (s := S4x256x256) (k0_off3 i) S1x256x256.size (k0_off3_inb i)) v []
      (ValueIdx.ix3 (0 : Fin 1) (y 1) (y 2))
    rw [hy] at hr
    exact hr
  · rw [if_neg h]
    refine View.read_writes_apply_of_forall_not_mem _ _ _ _ fun p hp hy => h ?_
    obtain rfl := List.mem_singleton.mp hp
    obtain ⟨x, hx⟩ := (Rect.unit (s := S4x256x256) (k0_off3 i) S1x256x256.size (k0_off3_inb i)).exists_idx_of_mem hy
    obtain ⟨z, p, q, rfl⟩ : ∃ (z : Fin 1) (p q : Fin 256), x = ValueIdx.ix3 z p q := ⟨x 0, x 1, x 2, by blk_ext!⟩
    obtain rfl : z = 0 := Subsingleton.elim _ _
    exact (congrArg (fun y : S4x256x256.Idx => (y 0).val) hx.symm).trans (he p q 0)

variable (c : Dev nD) (i : grid0.Coords) (arg2 : Memref sig .tc .vmem S256x7168 .bf16) (harg2 : arg2.IsWhole) (arg3 : Memref sig .tc .vmem S256x896 .i16) (harg3 : arg3.IsWhole) (arg4 : Memref sig .tc .vmem S1x256 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x7168 .bf16) (harg7 : arg7.IsWhole) (arg8 : Memref sig .tc .vmem S4x256x256 .f32) (harg8 : arg8.IsWhole)

/-- The buffer of products after the store of a point. -/
abbrev Z8 (x0 : Vec Ideal S256x7168 .bf16) (x1 : Vec Ideal S256x896 .i16) (x2 : Vec Ideal S1x256 .f32) (z : Vec Ideal S4x256x256 .f32) (g : BufTy.Contents (Elt Ideal) arg7.view.ty) : BufTy.Contents (Elt Ideal) arg8.view.ty :=
  arg8.view.writes (Elt Ideal) (harg8.unread z) [⟨Rect.unit (s := S4x256x256) (k0_off3 i) S1x256x256.size (k0_off3_inb i),
    k0_pay3 (F := Ideal) (View.ld (arg2.view.read (Elt Ideal) (harg2.unread x0)) (Rect.unit (s := S256x7168) ![0, 0] S256x7168.size inb_S256x7168_S256x7168_0_0))
      (View.ld (arg7.view.read (Elt Ideal) (arg7.view.writes (Elt Ideal) g
        (pb_k0_t1 (F := Ideal) Variants.none c none i arg2 harg2 arg3 harg3 arg4 harg4 arg5 harg5 arg6 harg6 arg7 harg7 arg8 harg8 (harg3.unread x1) k0_t1_loop.trips)))
        (Rect.unit (s := S256x7168) ![0, 0] S256x7168.size inb_S256x7168_S256x7168_0_0))
      (View.ld (arg4.view.read (Elt Ideal) (harg4.unread x2)) (Rect.unit (s := S1x256) ![0, 0] S1x256.size inb_S1x256_S1x256_0_0))⟩]

theorem Z8_eq (x0 : Vec Ideal S256x7168 .bf16) (x1 : Vec Ideal S256x896 .i16) (x2 : Vec Ideal S1x256 .f32) (z : Vec Ideal S4x256x256 .f32) (g : BufTy.Contents (Elt Ideal) arg7.view.ty) :
    arg8.view.read (Elt Ideal) (Z8 c i arg2 harg2 arg3 harg3 arg4 harg4 arg5 harg5 arg6 harg6 arg7 harg7 arg8 harg8 x0 x1 x2 z g) = put (i 1).val z (zval x0 x1 x2) := by
  have o2 : (![0, 0] : Fin 2 → ℕ) = fun _ => 0 := by funext a; match a with | ⟨0, _⟩ => rfl | ⟨1, _⟩ => rfl
  have e0 := (View.ld_unit_zero (Val := Elt Ideal) (S := S256x7168) (e := .bf16) o2 inb_S256x7168_S256x7168_0_0 (arg2.view.read (Elt Ideal) (harg2.unread x0))).trans (harg2.read_unread x0)
  have e1 := (View.ld_unit_zero (Val := Elt Ideal) (S := S256x7168) (e := .bf16) o2 inb_S256x7168_S256x7168_0_0 _).trans
    ((weights_eq Variants.none c none i arg2 harg2 arg3 harg3 arg4 harg4 arg5 harg5 arg6 harg6 arg7 harg7 arg8 harg8 (harg3.unread x1) g).trans
      (congrArg wmat (harg3.read_unread x1)))
  have e2 := (View.ld_unit_zero (Val := Elt Ideal) (S := S1x256) (e := .f32) o2 inb_S1x256_S1x256_0_0 (arg4.view.read (Elt Ideal) (harg4.unread x2))).trans (harg4.read_unread x2)
  refine (read_put arg8 i _ _).trans (congrArg₂ (put (i 1).val) (harg8.read_unread z) ?_)
  exact congr (congr (congrArg (k0_pay3 (F := Ideal)) e0) e1) e2

theorem out_cover (z : Vec Ideal S4x256x256 .f32) (x3 : Vec Ideal S1x1024 .f32) (y : S256x1024.Idx) : ∃ p ∈ quarters z x3, y ∈ p.1.set :=
  View.cover_of_tiled (quarters z x3) S256x256.size (by rfl) y

set_option maxHeartbeats 1000000 in
/-- The body's triple at a point that leaves the output block alone. -/
theorem kernelRun0_A (c : Dev nD) (i : grid0.Coords) (arg2 : Memref sig .tc .vmem S256x7168 .bf16) (harg2 : arg2.IsWhole) (arg3 : Memref sig .tc .vmem S256x896 .i16) (harg3 : arg3.IsWhole) (arg4 : Memref sig .tc .vmem S1x256 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x7168 .bf16) (harg7 : arg7.IsWhole) (arg8 : Memref sig .tc .vmem S4x256x256 .f32) (harg8 : arg8.IsWhole) (hc0 : ¬cond0_0 i)
    (x0 : Vec Ideal S256x7168 .bf16) (x1 : Vec Ideal S256x896 .i16) (x2 : Vec Ideal S1x256 .f32) (x3 : Vec Ideal S1x1024 .f32)
    (x4 : Vec Ideal S256x1024 .bf16) (z : Vec Ideal S4x256x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare (put (i 1).val z (zval x0 x1 x2))) -∗ K ⟨⟩))
          ⊢ wp frame (wpE (defs₀ (F := Ideal)) Variants.none c none) E (cc0_linear (F := Ideal) i arg2 harg2 arg3 harg3 arg4 harg4 arg5 harg5 arg6 harg6 arg7 harg7 arg8 harg8) K := by
    intro E K
    simp only [cc0_linear_eq_skeleton]; unfold cc0_linear_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact harg6.read_unread _
    isplitl [HS0]
    · iexists _, _; isplitr; swap; · iexact HS0
      ipureintro; rfl
    iexists _; isplitr; swap; · iexact HS1
    ipureintro
    exact Z8_eq c i arg2 harg2 arg3 harg3 arg4 harg4 arg5 harg5 arg6 harg6 arg7 harg7 arg8 harg8 x0 x1 x2 z fs0

set_option maxHeartbeats 1000000 in
/-- The body's triple at a point that stores the output block. -/
theorem kernelRun0_B (c : Dev nD) (i : grid0.Coords) (arg2 : Memref sig .tc .vmem S256x7168 .bf16) (harg2 : arg2.IsWhole) (arg3 : Memref sig .tc .vmem S256x896 .i16) (harg3 : arg3.IsWhole) (arg4 : Memref sig .tc .vmem S1x256 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x7168 .bf16) (harg7 : arg7.IsWhole) (arg8 : Memref sig .tc .vmem S4x256x256 .f32) (harg8 : arg8.IsWhole) (hc0 : cond0_0 i)
    (x0 : Vec Ideal S256x7168 .bf16) (x1 : Vec Ideal S256x896 .i16) (x2 : Vec Ideal S1x256 .f32) (x3 : Vec Ideal S1x1024 .f32)
    (x4 : Vec Ideal S256x1024 .bf16) (z : Vec Ideal S4x256x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv (put (i 1).val z (zval x0 x1 x2)) x3) ∗ (∃ d, owns (c : Thread nD τ) arg7 fullShare d) ∗ owns (c : Thread nD τ) arg8 fullShare (put (i 1).val z (zval x0 x1 x2))) -∗ K ⟨⟩))
          ⊢ wp frame (wpE (defs₀ (F := Ideal)) Variants.none c none) E (cc0_linear (F := Ideal) i arg2 harg2 arg3 harg3 arg4 harg4 arg5 harg5 arg6 harg6 arg7 harg7 arg8 harg8) K := by
    intro E K
    simp only [cc0_linear_eq_skeleton]; unfold cc0_linear_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine Eq.trans (b := arg6.view.read (Elt Ideal) (arg6.view.writes (Elt Ideal) (harg6.unread x4)
        (quarters (arg8.view.read (Elt Ideal) (Z8 c i arg2 harg2 arg3 harg3 arg4 harg4 arg5 harg5 arg6 harg6 arg7 harg7 arg8 harg8 x0 x1 x2 z fs0))
          (arg5.view.read (Elt Ideal) (harg5.unread x3))))) rfl ?_
      rw [Z8_eq, harg5.read_unread]
      exact View.read_writes_eq_canon _ _ _ (out_cover _ _)
    isplitl [HS0]
    · iexists _, _; isplitr; swap; · iexact HS0
      ipureintro; rfl
    iexists _; isplitr; swap; · iexact HS1
    ipureintro
    exact Z8_eq c i arg2 harg2 arg3 harg3 arg4 harg4 arg5 harg5 arg6 harg6 arg7 harg7 arg8 harg8 x0 x1 x2 z fs0

end Cert.LinearIdeal.Run

end
-- ==== Proof.LinearRun.lean ====
/- The second call's run over the extended reals: at every fourth point the output block holds `outv` of the four products of its
   group of points, and the array after the run is made of those blocks. -/
module

public import proofs.«01_k».proof.Proof.Gen.LinearIdeal.Frame
public import proofs.«01_k».proof.Proof.Gen.LinearIdeal.Loops
public import proofs.«01_k».proof.Proof.Gen.LinearIdeal.Skeleton
public import proofs.«01_k».proof.Proof.LinearBody
public import Idealize.ShloMosaic.Lib.Claim
public import Idealize.ShloMosaic.Lib.Pipeline.ValueKit.Point
public import Idealize.ShloMosaic.Lib.ValueIdxCoords

@[expose] public section

set_option maxRecDepth 16384

noncomputable section

namespace Cert.LinearIdeal.Run

open Cert.LinearIdeal Cert.LinearIdeal.Gen Cert.LinearIdeal.Weights
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The products of point `t`. -/
def zpt (c : Dev nD) (t : Fin cfg0.N) : Vec Ideal S1x256x256 .f32 := zval (iblk m c 0 t) (iblk m c 1 t) (iblk m c 2 t)

/-- Before point `n`, the buffer of products holds those of the points of its group already passed. -/
def Holds (c : Dev nD) (n : ℕ) (z : Vec Ideal S4x256x256 .f32) : Prop :=
  ∀ s : Fin cfg0.N, s.val / 4 = n / 4 → s.val < n → ∀ p q : Fin 256, z (ValueIdx.ix3 (⟨s.val % 4, Nat.mod_lt _ (by decide)⟩ : Fin 4) p q) = zpt m c s (ValueIdx.ix3 (0 : Fin 1) p q)

/-- The four products of a group of points. -/
def zall (c : Dev nD) (t : Fin cfg0.N) : Vec Ideal S4x256x256 .f32 := fun y =>
  have h0 : (y 0).val < 4 := (y 0).isLt
  have ht : t.val < 72 := lt_of_lt_of_eq t.isLt (show cfg0.N = 72 from N_0)
  zpt m c ⟨4 * (t.val / 4) + (y 0).val, lt_of_lt_of_eq (by omega) (show cfg0.N = 72 from N_0).symm⟩ (ValueIdx.ix3 (0 : Fin 1) (y 1) (y 2))

theorem coords1 (t : Fin cfg0.N) : (grid0.coords t 1).val = t.val % 4 :=
  (by decide +kernel : ∀ t : Fin grid0.N, (grid0.coords t 1).val = t.val % 4) t

theorem coords0 (t : Fin cfg0.N) : (grid0.coords t 0).val = t.val / 4 :=
  (by decide +kernel : ∀ t : Fin grid0.N, (grid0.coords t 0).val = t.val / 4) t

theorem Holds_step (c : Dev nD) (t : Fin cfg0.N) (z : Vec Ideal S4x256x256 .f32) (h : Holds m c t.val z) :
    ∀ s : Fin cfg0.N, s.val / 4 = t.val / 4 → s.val ≤ t.val → ∀ p q : Fin 256,
      put (grid0.coords t 1).val z (zpt m c t) (ValueIdx.ix3 (⟨s.val % 4, Nat.mod_lt _ (by decide)⟩ : Fin 4) p q) = zpt m c s (ValueIdx.ix3 (0 : Fin 1) p q) := fun s h1 h2 p q => by
  unfold put
  rw [coords1]
  rcases Nat.lt_or_ge s.val t.val with hlt | hge
  · rw [if_neg (by show ¬ s.val % 4 = t.val % 4; omega)]
    exact h s h1 hlt p q
  · obtain rfl : s = t := Fin.ext (by omega)
    rw [if_pos rfl]

theorem Holds_succ (c : Dev nD) (t : Fin cfg0.N) (z : Vec Ideal S4x256x256 .f32) (h : Holds m c t.val z) :
    Holds m c (t.val + 1) (put (grid0.coords t 1).val z (zpt m c t)) := fun s h1 h2 p q =>
  Holds_step m c t z h s (by omega) (by omega) p q

theorem Holds_last (c : Dev nD) (t : Fin cfg0.N) (ht : t.val % 4 = 3) (z : Vec Ideal S4x256x256 .f32) (h : Holds m c t.val z) :
    put (grid0.coords t 1).val z (zpt m c t) = zall m c t := funext fun y => by
  have h0 : (y 0).val < 4 := (y 0).isLt
  have h72 : t.val < 72 := lt_of_lt_of_eq t.isLt (show cfg0.N = 72 from N_0)
  have := Holds_step m c t z h ⟨4 * (t.val / 4) + (y 0).val, lt_of_lt_of_eq (by omega) (show cfg0.N = 72 from N_0).symm⟩
    (by show (4 * (t.val / 4) + (y 0).val) / 4 = _; omega) (by show 4 * (t.val / 4) + (y 0).val ≤ _; omega) (y 1) (y 2)
  refine Eq.trans (congrArg _ ?_) this
  funext a
  match a with
  | ⟨0, _⟩ => exact Fin.ext (by show (y 0).val = (4 * (t.val / 4) + (y 0).val) % 4; omega)
  | ⟨1, _⟩ => rfl
  | ⟨2, _⟩ => rfl

/-! ## The pipeline's proof data -/

/-- The invariant before point `n`: the buffer of weights at some contents, the buffer of products as `Holds` says, and the generator
    register. -/
def Phi (c : Dev nD) (n : ℕ) : sProp 𝕄 :=
  iprop(((∃ d, owns (c : Thread nD τ) scM0_0 fullShare d) ∗ (∃ z, owns (c : Thread nD τ) scM0_1 fullShare z ∗ ⌜Holds m c n z⌝)) ∗ (∃ r, prngReg c r))

/-- The proof data: every input's buffer at its block; the output block at `outv` of its group's products, where it is stored. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv (zall m c t) (iblk m c 3 t)
  Φ t := Phi m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = outv (zall m c t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem idle4 (t : Fin cfg0.N) (h : ¬ t.val % 4 = 3) : cfg0.idle 4 (grid0.coords t) = true := by
  have h' : ¬ (k0_cond1 (grid0.coords t) == 1#1) = true := fun e => h ((hcond0_0 t).mp (eq_of_beq e))
  show (!(k0_cond1 (grid0.coords t) == 1#1)) = true
  simp only [h', Bool.not_false]
theorem live4 (t : Fin cfg0.N) (h : t.val % 4 = 3) : cfg0.idle 4 (grid0.coords t) = false := by
  have h' : (k0_cond1 (grid0.coords t) == 1#1) = true := beq_iff_eq.mpr ((hcond0_0 t).mpr h)
  show (!(k0_cond1 (grid0.coords t) == 1#1)) = false
  rw [h']; rfl
theorem flush4 : ∀ t : Fin cfg0.N, ¬ t.val % 4 = 3 → (cfg0.win 4).flush t = false :=
  (by decide +kernel : ∀ t : Fin grid0.N, ¬ t.val % 4 = 3 → win0_4.flush t = false)

set_option maxHeartbeats 800000 in
/-- The body at any point. -/
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  have hN : t.val < 72 := lt_of_lt_of_eq t.isLt (show cfg0.N = 72 from N_0)
  by_cases h0 : t.val % 4 = 3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [live4 t h0], after0_4]
    iintro ⟨⟨⟨HS0, ⟨%z, HS1, %hz⟩⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ ((hcond0_0 t).mpr h0) (iblk m c 0 t) (iblk m c 1 t) (iblk m c 2 t) (iblk m c 3 t) ((dats m 0 c).before 4 t d4) z) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitl [HS1]; · iexact HS1
        ipureintro; exact Holds_succ m c t z hz
      iexact Hg
    isplitl [Ho]; · iexact Ho
    isplitl [H0]; · iexact H0
    isplitl [H1]; · iexact H1
    isplitl [H2]; · iexact H2
    isplitl [H3]; · iexact H3
    rw [← Holds_last m c t h0 z hz]
    iexact H4
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = iprop(∃ d, owns (c : Thread nD τ) (ms0_4 t) fullShare ((dats m 0 c).before 4 t d)) from by
      unfold Dat.leavesExact; rw [idle4 t h0, flush4 t h0]]
    iintro ⟨⟨⟨HS0, ⟨%z, HS1, %hz⟩⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ (fun h => h0 ((hcond0_0 t).mp h)) (iblk m c 0 t) (iblk m c 1 t) (iblk m c 2 t) (iblk m c 3 t) ((dats m 0 c).before 4 t d4) z) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitl [HS1]; · iexact HS1
        ipureintro; exact Holds_succ m c t z hz
      iexact Hg
    isplitl [Ho]; · iexact Ho
    isplitl [H0]; · iexact H0
    isplitl [H1]; · iexact H1
    isplitl [H2]; · iexact H2
    isplitl [H3]; · iexact H3
    iexists d4; iexact H4

/-- The body table's row at point `t`'s slots is the body as `bodyAt0` spells it. -/
theorem defs₀_row (t : Fin cfg0.N) :
    defs₀ (F := Ideal) .tc cfg0.body (cfg0.bodyArgs t (cfg0.slots t)) = bodyAt0 (F := Ideal) t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

/-- The scoped buffers and the register, with the two scratch buffers as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem enter (c : Dev nD) : (Pipeline.ΦA spec0 c : sProp 𝕄) ⊢ (dats m 0 c).Φ 0 := by
  rw [show (dats m 0 c).Φ 0 = Phi m c 0 from rfl, PhiA0_eq]
  unfold Phi
  iintro ⟨⟨H0, ⟨%z, H1⟩⟩, Hg⟩
  isplitl [H0 H1]
  · isplitl [H0]; · iexact H0
    iexists z; isplitl [H1]; · iexact H1
    ipureintro; exact fun s _ h => absurd h (Nat.not_lt_zero _)
  iexact Hg

theorem leave (c : Dev nD) : (dats m 0 c).Φ (Fin.last cfg0.N) ⊢ (Pipeline.ΦA spec0 c : sProp 𝕄) := by
  rw [show (dats m 0 c).Φ (Fin.last cfg0.N) = Phi m c cfg0.N from rfl, PhiA0_eq]
  unfold Phi
  iintro ⟨⟨H0, ⟨%z, H1, %hz⟩⟩, Hg⟩
  isplitl [H0 H1]
  · isplitl [H0]; · iexact H0
    iexists z; iexact H1
  iexact Hg

set_option backward.isDefEq.respectTransparency.types false in
/-- The launch: every array of the pipeline ends at what the proof data says, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments unchanged and every counter zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The run with the result named. -/
theorem run_named : θ_run defs (onTc (τ := τ) (main (F := Ideal))) ⟨m, fun _ => 0, ρ⟩ (fun r => ∀ c : Dev nD,
      r.2.mem ((c.tc : Thread nD τ).loc main_v5) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, h.2 c⟩) (θ_run_and (run_main m ρ) (unchanged m ρ))

end Cert.LinearIdeal.Run

end
-- ==== Proof.LinearValue.lean ====
/- The value of the linear call at the ideal instance: for finite inputs and scales its array is `linear`. -/
module

public import proofs.«01_k».proof.Proof.LinearSpec
public import proofs.«01_k».proof.Proof.LinearRun
public import Idealize.ShloMosaic.Lib.Pipeline.ValueKit.Point
public import Idealize.ShloMosaic.Lib.ValueIdxCoords

@[expose] public section

noncomputable section

namespace Cert.LinearIdeal.Value

open Cert.LinearIdeal Cert.LinearIdeal.Gen Cert.LinearIdeal.Run Cert.LinearIdeal.Weights Cert.LinearSpec Cert.Hadamard Cert.Decode Idealize.ShloMosaic Idealize.ShloMosaic.TcCoe Idealize.SL.Sem

/-! ## The product of a point -/

/-- The product of a point: for finite inputs and scales, the sum by field and code word, times the scale. -/
theorem zval_apply (x0 : Vec Ideal S256x7168 .bf16) (x1 : Vec Ideal S256x896 .i16) (x2 : Vec Ideal S1x256 .f32)
    (a : Fin 256 → Fin 7168 → ℝ) (b : Fin 256 → ℝ) (h0 : ∀ s c, x0 (ValueIdx.ix2 s c) = (a s c : EReal))
    (h2 : ∀ o, x2 (ValueIdx.ix2 (0 : Fin 1) o) = (b o : EReal)) (s o : Fin 256) :
    zval x0 x1 x2 (ValueIdx.ix3 (0 : Fin 1) s o)
      = (((∑ f : Fin 8, ∑ k : Fin 896, a s (cols.symm (f, k))
          * weight (state f.val (x1 (ValueIdx.ix2 o k)) (x1 (ValueIdx.ix2 o (nextWord k))))) * b o : ℝ) : EReal) := by
  have hw : ∀ c : Fin 7168, wmat x1 (ValueIdx.ix2 o c)
      = ((weight (state (cols c).1.val (x1 (ValueIdx.ix2 o (cols c).2)) (x1 (ValueIdx.ix2 o (nextWord (cols c).2)))) / 2 ^ 112 : ℝ) : EReal) := fun c => by
    have hc : c.val < 7168 := c.isLt
    refine (wmat_apply x1 o (⟨c.val / 1024, by omega⟩ : Fin 7) (cols c).1 (⟨c.val % 128, by omega⟩ : Fin 128) (ValueIdx.ix2 o c) rfl
      (by show c.val = 1024 * (c.val / 1024) + 128 * (c.val / 128 % 8) + c.val % 128; omega)).trans ?_
    have e1 : word (⟨c.val / 1024, by omega⟩ : Fin 7) (⟨c.val % 128, by omega⟩ : Fin 128) = (cols c).2 :=
      Fin.ext (by show 128 * (c.val / 1024) + c.val % 128 = c.val / 1024 * 128 + c.val % 128; omega)
    have e2 : word (⟨c.val / 1024, by omega⟩ : Fin 7) (next (⟨c.val % 128, by omega⟩ : Fin 128)) = nextWord (cols c).2 :=
      Fin.ext (by
        show 128 * (c.val / 1024) + (c.val % 128 / 32 * 32 + (c.val % 128 % 32 + 1) % 32)
          = (c.val / 1024 * 128 + c.val % 128) / 32 * 32 + ((c.val / 1024 * 128 + c.val % 128) % 32 + 1) % 32
        omega)
    rw [e1, e2]
  have key : ∀ X : Vec Ideal S256x7168 .bf16, k0_pay3 (F := Ideal) x0 X x2 (ValueIdx.ix3 (0 : Fin 1) s o)
      = (∑ c : Fin 7168, x0 (ValueIdx.ix2 s c) * X (ValueIdx.ix2 o c)) * (x2 (ValueIdx.ix2 (0 : Fin 1) o) * Ideal.ofBits .f32 0x77800000#32) := fun X => by
    pointwise [k0_pay3]
    try rfl
  have e : zval x0 x1 x2 (ValueIdx.ix3 (0 : Fin 1) s o) = _ := key (wmat x1)
  rw [e, h2 o, Decode.ofBits_scale]
  rw [Finset.sum_congr rfl fun c _ => (congrArg₂ (· * ·) (h0 s c) (hw c)).trans (EReal.coe_mul _ _).symm]
  rw [← coe_sum, ← EReal.coe_mul, ← EReal.coe_mul]
  refine congrArg (fun u : ℝ => (u : EReal)) ?_
  rw [sum_cols]
  simp only [Equiv.apply_symm_apply, mul_div_assoc']
  simp only [← Finset.sum_div]
  field_simp

/-! ## The output block -/

theorem tile : IsTile (k0_pay42 (F := Ideal)) := fun i j => by
  have h0 : iota .tc S256x256 32 [0] iota_S256x256_d0_w32 (ValueIdx.ix2 i j) = BitVec.ofNat 32 i.val := by
    show BitVec.ofNat 32 (0 * 256 + i.val) = _; rw [Nat.zero_mul, Nat.zero_add]
  have h1 : iota .tc S256x256 32 [1] iota_S256x256_d1_w32 (ValueIdx.ix2 i j) = BitVec.ofNat 32 j.val := by
    show BitVec.ofNat 32 (0 * 256 + j.val) = _; rw [Nat.zero_mul, Nat.zero_add]
  show (((sgnWord (IntOp.andi (iota .tc S256x256 32 [0] iota_S256x256_d0_w32 (ValueIdx.ix2 i j))
    (iota .tc S256x256 32 [1] iota_S256x256_d1_w32 (ValueIdx.ix2 i j)))).toInt : ℝ) : EReal) = _
  rw [h0, h1]
  rfl

/-- A row of signs, broadcast. -/
theorem signs (v : Vec Ideal S1x256 .f32) (t r : Fin 256) :
    broadcastTo S256x256 (shapeCast S1x256 v shapeCasts_S1x256_S1x256 : FVec Ideal S1x256 .f32) broadcasts_S1x256_S256x256 (ValueIdx.ix2 t r)
      = v (ValueIdx.ix2 (0 : Fin 1) r) := by
  pointwise
  rfl

theorem slab_apply (z : Vec Ideal S4x256x256 .f32) (t k : Fin 256) :
    k0_pay43 (F := Ideal) (slab0 z) (ValueIdx.ix2 t k) = z (ValueIdx.ix3 (0 : Fin 4) t k)
    ∧ k0_pay44 (F := Ideal) (slab1 z) (ValueIdx.ix2 t k) = z (ValueIdx.ix3 (1 : Fin 4) t k)
    ∧ k0_pay45 (F := Ideal) (slab2 z) (ValueIdx.ix2 t k) = z (ValueIdx.ix3 (2 : Fin 4) t k)
    ∧ k0_pay46 (F := Ideal) (slab3 z) (ValueIdx.ix2 t k) = z (ValueIdx.ix3 (3 : Fin 4) t k) := by
  refine ⟨?_, ?_, ?_, ?_⟩
  · pointwise [k0_pay43]
    refine congrArg z (funext fun a => ?_)
    match a with
    | ⟨0, _⟩ => rfl
    | ⟨1, _⟩ => exact Fin.ext (by show 0 + 1 * t.val = t.val; omega)
    | ⟨2, _⟩ => exact Fin.ext (by show 0 + 1 * k.val = k.val; omega)
  · pointwise [k0_pay44]
    refine congrArg z (funext fun a => ?_)
    match a with
    | ⟨0, _⟩ => rfl
    | ⟨1, _⟩ => exact Fin.ext (by show 0 + 1 * t.val = t.val; omega)
    | ⟨2, _⟩ => exact Fin.ext (by show 0 + 1 * k.val = k.val; omega)
  · pointwise [k0_pay45]
    refine congrArg z (funext fun a => ?_)
    match a with
    | ⟨0, _⟩ => rfl
    | ⟨1, _⟩ => exact Fin.ext (by show 0 + 1 * t.val = t.val; omega)
    | ⟨2, _⟩ => exact Fin.ext (by show 0 + 1 * k.val = k.val; omega)
  · pointwise [k0_pay46]
    refine congrArg z (funext fun a => ?_)
    match a with
    | ⟨0, _⟩ => rfl
    | ⟨1, _⟩ => exact Fin.ext (by show 0 + 1 * t.val = t.val; omega)
    | ⟨2, _⟩ => exact Fin.ext (by show 0 + 1 * k.val = k.val; omega)

variable (v35 v37 v39 v41 : Vec Ideal S1x256x256 .f32) (t r : Fin 256) (a : Fin 4 → Fin 256 → ℝ)

/-- The four parts of a row hold the reals `a`. -/
abbrev Parts : Prop := ∀ k, k0_pay43 (F := Ideal) v35 (ValueIdx.ix2 t k) = a 0 k ∧ k0_pay44 (F := Ideal) v37 (ValueIdx.ix2 t k) = a 1 k
  ∧ k0_pay45 (F := Ideal) v39 (ValueIdx.ix2 t k) = a 2 k ∧ k0_pay46 (F := Ideal) v41 (ValueIdx.ix2 t k) = a 3 k

/-- What quarter `p` of a block's row holds at column `r`. -/
abbrev quarter (p : Fin 4) : ℝ := (∑ k : Fin 256, (∑ q : Fin 4, had q.val p.val * a q k) * had k.val r.val)

theorem quarter0 (ha : Parts v35 v37 v39 v41 t a) (v : Vec Ideal S1x256 .f32) :
    k0_pay4 (F := Ideal) (k0_pay56 (k0_pay54 v35 v37 v39 v41) (k0_pay55 (F := Ideal))) (k0_pay60 v) (ValueIdx.ix2 t r)
      = ((quarter r a 0 * (1 / 32) : ℝ) : EReal) * v (ValueIdx.ix2 (0 : Fin 1) r) := by
  refine congrArg₂ (· * ·) ((congrArg₂ (· * ·) (split3_apply (addf (addf (k0_pay43 (F := Ideal) v35) (k0_pay44 (F := Ideal) v37)) (addf (k0_pay45 (F := Ideal) v39) (k0_pay46 (F := Ideal) v41))) _ tile bitsLt_bf16_f32 t r
    (fun k => ∑ q : Fin 4, had q.val (0 : Fin 4).val * a q k) fun k => ?_) Hadamard.ofBits_scale).trans (EReal.coe_mul _ _).symm) (signs v t r)
  obtain ⟨h0, h1, h2, h3⟩ := ha k
  show k0_pay43 (F := Ideal) v35 (ValueIdx.ix2 t k) + k0_pay44 (F := Ideal) v37 (ValueIdx.ix2 t k) + (k0_pay45 (F := Ideal) v39 (ValueIdx.ix2 t k) + k0_pay46 (F := Ideal) v41 (ValueIdx.ix2 t k)) = _
  rw [h0, h1, h2, h3, ← EReal.coe_add, ← EReal.coe_add, ← EReal.coe_add]
  congr 1
  simp only [Fin.sum_univ_four, had4]
  simp
  ring

theorem quarter1 (ha : Parts v35 v37 v39 v41 t a) (v : Vec Ideal S1x256 .f32) :
    k0_pay5 (F := Ideal) (k0_pay57 (k0_pay42 (F := Ideal)) (k0_pay51 v35 v37 v39 v41)) v (ValueIdx.ix2 t r)
      = ((quarter r a 1 * (1 / 32) : ℝ) : EReal) * v (ValueIdx.ix2 (0 : Fin 1) r) := by
  refine congrArg₂ (· * ·) ((congrArg₂ (· * ·) (split3_apply (addf (subf (k0_pay43 (F := Ideal) v35) (k0_pay44 (F := Ideal) v37)) (subf (k0_pay45 (F := Ideal) v39) (k0_pay46 (F := Ideal) v41))) _ tile bitsLt_bf16_f32 t r
    (fun k => ∑ q : Fin 4, had q.val (1 : Fin 4).val * a q k) fun k => ?_) Hadamard.ofBits_scale).trans (EReal.coe_mul _ _).symm) (signs v t r)
  obtain ⟨h0, h1, h2, h3⟩ := ha k
  show k0_pay43 (F := Ideal) v35 (ValueIdx.ix2 t k) - k0_pay44 (F := Ideal) v37 (ValueIdx.ix2 t k) + (k0_pay45 (F := Ideal) v39 (ValueIdx.ix2 t k) - k0_pay46 (F := Ideal) v41 (ValueIdx.ix2 t k)) = _
  rw [h0, h1, h2, h3, ← EReal.coe_sub, ← EReal.coe_sub, ← EReal.coe_add]
  congr 1
  simp only [Fin.sum_univ_four, had4]
  simp
  ring

theorem quarter2 (ha : Parts v35 v37 v39 v41 t a) (v : Vec Ideal S1x256 .f32) :
    k0_pay6 (F := Ideal) (k0_pay58 (k0_pay42 (F := Ideal)) (k0_pay52 v35 v37 v39 v41)) v (ValueIdx.ix2 t r)
      = ((quarter r a 2 * (1 / 32) : ℝ) : EReal) * v (ValueIdx.ix2 (0 : Fin 1) r) := by
  refine congrArg₂ (· * ·) ((congrArg₂ (· * ·) (split3_apply (subf (addf (k0_pay43 (F := Ideal) v35) (k0_pay44 (F := Ideal) v37)) (addf (k0_pay45 (F := Ideal) v39) (k0_pay46 (F := Ideal) v41))) _ tile bitsLt_bf16_f32 t r
    (fun k => ∑ q : Fin 4, had q.val (2 : Fin 4).val * a q k) fun k => ?_) Hadamard.ofBits_scale).trans (EReal.coe_mul _ _).symm) (signs v t r)
  obtain ⟨h0, h1, h2, h3⟩ := ha k
  show k0_pay43 (F := Ideal) v35 (ValueIdx.ix2 t k) + k0_pay44 (F := Ideal) v37 (ValueIdx.ix2 t k) - (k0_pay45 (F := Ideal) v39 (ValueIdx.ix2 t k) + k0_pay46 (F := Ideal) v41 (ValueIdx.ix2 t k)) = _
  rw [h0, h1, h2, h3, ← EReal.coe_add, ← EReal.coe_add, ← EReal.coe_sub]
  congr 1
  simp only [Fin.sum_univ_four, had4]
  simp
  ring

theorem quarter3 (ha : Parts v35 v37 v39 v41 t a) (v : Vec Ideal S1x256 .f32) :
    k0_pay7 (F := Ideal) (k0_pay59 (k0_pay42 (F := Ideal)) (k0_pay53 v35 v37 v39 v41)) v (ValueIdx.ix2 t r)
      = ((quarter r a 3 * (1 / 32) : ℝ) : EReal) * v (ValueIdx.ix2 (0 : Fin 1) r) := by
  refine congrArg₂ (· * ·) ((congrArg₂ (· * ·) (split3_apply (subf (subf (k0_pay43 (F := Ideal) v35) (k0_pay44 (F := Ideal) v37)) (subf (k0_pay45 (F := Ideal) v39) (k0_pay46 (F := Ideal) v41))) _ tile bitsLt_bf16_f32 t r
    (fun k => ∑ q : Fin 4, had q.val (3 : Fin 4).val * a q k) fun k => ?_) Hadamard.ofBits_scale).trans (EReal.coe_mul _ _).symm) (signs v t r)
  obtain ⟨h0, h1, h2, h3⟩ := ha k
  show k0_pay43 (F := Ideal) v35 (ValueIdx.ix2 t k) - k0_pay44 (F := Ideal) v37 (ValueIdx.ix2 t k) - (k0_pay45 (F := Ideal) v39 (ValueIdx.ix2 t k) - k0_pay46 (F := Ideal) v41 (ValueIdx.ix2 t k)) = _
  rw [h0, h1, h2, h3, ← EReal.coe_sub, ← EReal.coe_sub, ← EReal.coe_sub]
  congr 1
  simp only [Fin.sum_univ_four, had4]
  simp
  ring

/-- What the last point of a group leaves in the output block, where the four products are finite. -/
theorem outv_apply (z : Vec Ideal S4x256x256 .f32) (x3 : Vec Ideal S1x1024 .f32) (b : Fin 256 → Fin 1024 → ℝ)
    (hb : ∀ q t k, z (ValueIdx.ix3 q t k) = (b t (at4 q k) : EReal)) (y : S256x1024.Idx) :
    outv z x3 y = (((∑ n, b (y 0) n * had n.val (y 1).val) * (1 / 32) : ℝ) : EReal) * x3 (ValueIdx.ix2 (0 : Fin 1) (y 1)) := by
  unfold outv
  have hP : ∀ t, Parts (slab0 z) (slab1 z) (slab2 z) (slab3 z) t (fun q k => b t (at4 q k)) := fun t k => by
    obtain ⟨e0, e1, e2, e3⟩ := slab_apply z t k
    exact ⟨e0.trans (hb _ _ _), e1.trans (hb _ _ _), e2.trans (hb _ _ _), e3.trans (hb _ _ _)⟩
  refine View.canon_apply_of_pieces (Val := Elt Ideal) (e := .bf16)
    (fun y => (((∑ n, b (y 0) n * had n.val (y 1).val) * (1 / 32) : ℝ) : EReal) * x3 (ValueIdx.ix2 (0 : Fin 1) (y 1))) _
    (fun pc hp x => ?_) y (out_cover z x3 y)
  have key : ∀ (t r : Fin 256) (p : Fin 4) (y : S256x1024.Idx) (e : EReal), y 0 = t → (y 1).val = 256 * p.val + r.val →
      e = x3 (ValueIdx.ix2 (0 : Fin 1) (y 1)) → ((quarter r (fun q k => b t (at4 q k)) p * (1 / 32) : ℝ) : EReal) * e
        = (((∑ n, b (y 0) n * had n.val (y 1).val) * (1 / 32) : ℝ) : EReal) * x3 (ValueIdx.ix2 (0 : Fin 1) (y 1)) := fun t r p y e h0 h1 he => by
    rw [he, h0, h1, sum_1024 (b t) p r]
  unfold quarters at hp
  simp only [List.mem_cons, List.not_mem_nil, or_false] at hp
  rcases hp with rfl | rfl | rfl | rfl
  · rw [ValueIdx.eq_ix2 x]
    refine (quarter3 _ _ _ _ (x 0) (x 1) _ (hP _) _).trans (key _ _ 3 _ _ ?_ ?_ ?_)
    · apply Fin.ext; show 0 + 1 * (x 0).val = _; omega
    · show 768 + 1 * (x 1).val = _; show _ = 256 * 3 + (x 1).val; omega
    · refine congrArg x3 (funext fun a => ?_)
      match a with
      | ⟨0, _⟩ => rfl
      | ⟨1, _⟩ => rfl
  · rw [ValueIdx.eq_ix2 x]
    refine (quarter2 _ _ _ _ (x 0) (x 1) _ (hP _) _).trans (key _ _ 2 _ _ ?_ ?_ ?_)
    · apply Fin.ext; show 0 + 1 * (x 0).val = _; omega
    · show 512 + 1 * (x 1).val = _; show _ = 256 * 2 + (x 1).val; omega
    · refine congrArg x3 (funext fun a => ?_)
      match a with
      | ⟨0, _⟩ => rfl
      | ⟨1, _⟩ => rfl
  · rw [ValueIdx.eq_ix2 x]
    refine (quarter1 _ _ _ _ (x 0) (x 1) _ (hP _) _).trans (key _ _ 1 _ _ ?_ ?_ ?_)
    · apply Fin.ext; show 0 + 1 * (x 0).val = _; omega
    · show 256 + 1 * (x 1).val = _; show _ = 256 * 1 + (x 1).val; omega
    · refine congrArg x3 (funext fun a => ?_)
      match a with
      | ⟨0, _⟩ => rfl
      | ⟨1, _⟩ => rfl
  · rw [ValueIdx.eq_ix2 x]
    refine (quarter0 _ _ _ _ (x 0) (x 1) _ (hP _) _).trans (key _ _ 0 _ _ ?_ ?_ ?_)
    · apply Fin.ext; show 0 + 1 * (x 0).val = _; omega
    · show 0 + 1 * (x 1).val = _; show _ = 256 * 0 + (x 1).val; omega
    · refine congrArg x3 (funext fun a => ?_)
      match a with
      | ⟨0, _⟩ => rfl
      | ⟨1, _⟩ => rfl

/-! ## The blocks -/

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])
theorem idx3 : ∀ t : Fin cfg0.N, win0_3.index t = ![0, t.val / 4] := (by decide +kernel : ∀ t : Fin grid0.N, win0_3.index t = ![0, t.val / 4])
theorem idx4 : ∀ t : Fin cfg0.N, win0_4.index t = ![0, t.val / 4] := (by decide +kernel : ∀ t : Fin grid0.N, win0_4.index t = ![0, t.val / 4])

variable (m : (ℓ : Loc nD τ sig) → Buf (Elt Ideal) ℓ)

/-- The permuted input: column `c` is the field and word of `cols`. -/
theorem blk0 (c : Dev nD) (p : Fin cfg0.N) (s : Fin 256) (f : Fin 8) (k : Fin 896) :
    iblk m c 0 p (ValueIdx.ix2 s (cols.symm (f, k))) = m ((c : Thread nD τ).loc main_arg0) (ValueIdx.ix2 s (⟨8 * k.val + f.val, by omega⟩ : Fin 7168)) := by
  have e : (cols.symm (f, k)).val = 1024 * (k.val / 128) + 128 * f.val + k.val % 128 := rfl
  generalize cols.symm (f, k) = d at e
  blk_ext! [iblk, V, idx0 p]
  show d.val / 1024 * 1024 + d.val % 128 * 8 + d.val / 128 % 8 = 8 * k.val + f.val; omega

theorem blk1 (c : Dev nD) (p : Fin cfg0.N) (o : Fin 256) (k : Fin 896) (ho : 256 * p.val + o.val < 18432) :
    iblk m c 1 p (ValueIdx.ix2 o k) = m ((c : Thread nD τ).loc main_arg1) (ValueIdx.ix2 ⟨256 * p.val + o.val, ho⟩ k) := by
  blk_ext! [iblk, V, idx1 p]
  show p.val * 256 + o.val = _; omega

theorem blk2 (c : Dev nD) (p : Fin cfg0.N) (o : Fin 256) (ho : 256 * p.val + o.val < 18432) :
    iblk m c 2 p (ValueIdx.ix2 (0 : Fin 1) o) = m ((c : Thread nD τ).loc main_arg2) (ValueIdx.ix1 ⟨256 * p.val + o.val, ho⟩) := by
  blk_ext! [iblk, V, idx2 p]
  show p.val * 256 + o.val = _; omega

theorem blk3 (c : Dev nD) (p : Fin cfg0.N) (n : Fin 1024) (hn : 1024 * (p.val / 4) + n.val < 18432) :
    iblk m c 3 p (ValueIdx.ix2 (0 : Fin 1) n) = m ((c : Thread nD τ).loc main_arg3) (ValueIdx.ix1 ⟨1024 * (p.val / 4) + n.val, hn⟩) := by
  blk_ext! [iblk, V, idx3 p]
  show p.val / 4 * 1024 + n.val = _; omega

/-! ## The array -/

theorem flush_last : ∀ t : Fin cfg0.N, (cfg0.win 4).flush t = true → t.val % 4 = 3 :=
  (by decide +kernel : ∀ t : Fin grid0.N, win0_4.flush t = true → t.val % 4 = 3)

/-- The products of one point. -/
theorem zpt_apply (c : Dev nD) (x : S256x7168.Idx → ℝ) (rs : S18432.Idx → ℝ)
    (hx : ∀ i, m ((c : Thread nD τ).loc main_arg0) i = (x i : EReal)) (hrs : ∀ i, m ((c : Thread nD τ).loc main_arg2) i = (rs i : EReal))
    (p : Fin cfg0.N) (s o : Fin 256) (ho : 256 * p.val + o.val < 18432) :
    zpt m c p (ValueIdx.ix3 (0 : Fin 1) s o)
      = ((lin x (m ((c : Thread nD τ).loc main_arg1)) s ⟨256 * p.val + o.val, ho⟩ * rs (ValueIdx.ix1 ⟨256 * p.val + o.val, ho⟩) : ℝ) : EReal) := by
  have hp : p.val < 72 := lt_of_lt_of_eq p.isLt (show cfg0.N = 72 from N_0)
  unfold zpt
  refine (zval_apply (iblk m c 0 p) (iblk m c 1 p) (iblk m c 2 p)
    (fun s d => x (ValueIdx.ix2 s (⟨8 * (cols d).2.val + (cols d).1.val, by omega⟩ : Fin 7168)))
    (fun o => rs (ValueIdx.ix1 ⟨256 * p.val + o.val, by omega⟩)) (fun s d => ?_) (fun o => ?_) s o).trans ?_
  · have := blk0 m c p s (cols d).1 (cols d).2
    rw [Prod.mk.eta, Equiv.symm_apply_apply] at this
    exact this.trans (hx _)
  · exact (blk2 m c p o (by omega)).trans (hrs _)
  · unfold lin wt
    simp only [Equiv.apply_symm_apply]
    refine congrArg (fun z : ℝ => ((z * _ : ℝ) : EReal)) (Finset.sum_congr rfl fun f _ => Finset.sum_congr rfl fun k _ => ?_)
    rw [blk1 m c p o k ho, blk1 m c p o (nextWord k) ho]

/-- The call's array after the run, where every input and every scale is finite. -/
theorem final (c : Dev nD) (x : S256x7168.Idx → ℝ) (rs : S18432.Idx → ℝ)
    (hx : ∀ i, m ((c : Thread nD τ).loc main_arg0) i = (x i : EReal)) (hrs : ∀ i, m ((c : Thread nD τ).loc main_arg2) i = (rs i : EReal)) :
    (dats m 0 c).arrAt 4 cfg0.N = linear x (m ((c : Thread nD τ).loc main_arg1)) rs (m ((c : Thread nD τ).loc main_arg3)) := by
  refine (dats m 0 c).arrAt_eq_of_covers 4 _ (by decide +kernel) fun p hf y => ?_
  blk_simp
  rw [after0_4]
  have hp : p.val < 72 := lt_of_lt_of_eq p.isLt (show cfg0.N = 72 from N_0)
  have hlt : ∀ n : Fin 1024, 1024 * (p.val / 4) + n.val < 18432 := fun n => by omega
  have hz : ∀ (q : Fin 4) (t k : Fin 256), zall m c p (ValueIdx.ix3 q t k)
      = ((lin x (m ((c : Thread nD τ).loc main_arg1)) t ⟨1024 * (p.val / 4) + (at4 q k).val, hlt _⟩
          * rs (ValueIdx.ix1 ⟨1024 * (p.val / 4) + (at4 q k).val, hlt _⟩) : ℝ) : EReal) := fun q t k => by
    have hq : q.val < 4 := q.isLt
    have e : 256 * (4 * (p.val / 4) + q.val) + k.val = 1024 * (p.val / 4) + (256 * q.val + k.val) := by omega
    have := zpt_apply m c x rs hx hrs ⟨4 * (p.val / 4) + q.val, lt_of_lt_of_eq (by omega) (show cfg0.N = 72 from N_0).symm⟩ t k
      (by show 256 * (4 * (p.val / 4) + q.val) + k.val < 18432; omega)
    simp only [e] at this
    exact this
  refine (outv_apply (zall m c p) (iblk m c 3 p) (fun t n => lin x (m ((c : Thread nD τ).loc main_arg1)) t ⟨1024 * (p.val / 4) + n.val, hlt n⟩
    * rs (ValueIdx.ix1 ⟨1024 * (p.val / 4) + n.val, hlt n⟩)) hz y).trans ?_
  have e0 : (((cfg0.win 4).blk p).view.emb y : S256x18432.Idx) 0 = y 0 := by
    apply Fin.ext
    blk_simp [idx4 p]
  have e1 : ((((cfg0.win 4).blk p).view.emb y : S256x18432.Idx) 1).val = 1024 * (p.val / 4) + (y 1).val := by
    blk_simp [idx4 p]
    omega
  generalize (((cfg0.win 4).blk p).view.emb y : S256x18432.Idx) = i at e0 e1
  refine Eq.trans ?_ (linear_apply _ _ _ _ i (p.val / 4) (y 0) (y 1) (by omega) e0 e1).symm
  exact congrArg _ (blk3 m c p (y 1) (hlt _))

end Cert.LinearIdeal.Value

end
-- ==== Proof.LinearRef.lean ====
/- The linear call's reference read at an index: it is `linear`. -/
module

public import proofs.«01_k».proof.Proof.LinearSpec
public import proofs.«01_k».proof.Proof.RotateClaims
public import proofs.«01_k».proof.Proof.Gen.LinearRefIdeal.Run

@[expose] public section

noncomputable section

namespace Cert.LinearRefIdeal.Read

open Cert.LinearRefIdeal Cert.LinearRefIdeal.Gen Cert.LinearRefIdeal.Value Cert.LinearSpec Cert.Hadamard Cert.Decode Idealize.ShloMosaic Idealize.ShloMosaic.TcCoe Idealize.ShloMosaic.StableHlo Idealize.SL.Sem

/-- A splat. -/
abbrev K (n : BitVec 32) : IVec S18432x896 32 := broadcastInDim S18432x896 ![] bcast_S_S18432x896 (constantI S_ 32 n)

/-- The `f32` words of a vector of half-precision words. -/
abbrev widen (h : IVec S18432x896 32) : IVec S18432x896 32 :=
  ori (Host.shli (andi h (K 32768#32)) (K 16#32)) (addi (Host.shli (andi h (K 32767#32)) (K 13#32)) (K 939524096#32))

theorem widen_apply (h : IVec S18432x896 32) (i : S18432x896.Idx) : widen h i = rWord (h i) := rfl

/-! ## The states -/

/-- The codes. -/
abbrev codes (V0 : Valuation τ sig (Elt Ideal)) : S18432x896.Idx → BitVec 16 := V0 (Proc.devRef .tc main_arg1)

/-- The state of field `f` of word `k` of column `o`. -/
def st (V0 : Valuation τ sig (Elt Ideal)) (f : Fin 8) (o : Fin 18432) (k : Fin 896) : BitVec 32 :=
  state f.val (codes V0 (ValueIdx.ix2 o k)) (codes V0 (ValueIdx.ix2 o (nextWord k)))

/-- The reference's rotated words: each the next of its group. -/
theorem next_apply (V0 : Valuation τ sig (Elt Ideal)) (o : Fin 18432) (k : Fin 896) :
    res_main_v17 V0 (ValueIdx.ix2 o k) = (codes V0 (ValueIdx.ix2 o (nextWord k))).setWidth 32 := by
  have hk : k.val < 896 := k.isLt
  rw [← ix2_eq_valueIdx]
  pointwise [res_main_v17, res_main_v15, res_main_v14]
  split
  · refine congrArg (BitVec.setWidth 32) (congrArg (codes V0) (funext fun a => Fin.ext ?_))
    match a with
    | ⟨0, _⟩ => rfl
    | ⟨1, _⟩ => show k.val / 32 * 32 + (1 + k.val % 32) = k.val / 32 * 32 + (k.val % 32 + 1) % 32; omega
  · refine congrArg (BitVec.setWidth 32) (congrArg (codes V0) (funext fun a => Fin.ext ?_))
    match a with
    | ⟨0, _⟩ => rfl
    | ⟨1, _⟩ => show k.val / 32 * 32 + (k.val % 32 - 31) = k.val / 32 * 32 + (k.val % 32 + 1) % 32; omega

theorem hash0 (V0 : Valuation τ sig (Elt Ideal)) (o : Fin 18432) (k : Fin 896) : res_main_v25 V0 (ValueIdx.ix2 o k) = Decode.hash (st V0 0 o k) := by
  unfold st
  rw [show ((0 : Fin 8).val) = 0 from rfl, state_zero]
  rfl

theorem hash1 (V0 : Valuation τ sig (Elt Ideal)) (o : Fin 18432) (k : Fin 896) : res_main_v72 V0 (ValueIdx.ix2 o k) = Decode.hash (st V0 1 o k) := by
  unfold st
  rw [show ((1 : Fin 8).val) = 1 from rfl, state_eq 1 (by decide), ← next_apply]
  rfl

theorem hash2 (V0 : Valuation τ sig (Elt Ideal)) (o : Fin 18432) (k : Fin 896) : res_main_v120 V0 (ValueIdx.ix2 o k) = Decode.hash (st V0 2 o k) := by
  unfold st
  rw [show ((2 : Fin 8).val) = 2 from rfl, state_eq 2 (by decide), ← next_apply]
  rfl

theorem hash3 (V0 : Valuation τ sig (Elt Ideal)) (o : Fin 18432) (k : Fin 896) : res_main_v168 V0 (ValueIdx.ix2 o k) = Decode.hash (st V0 3 o k) := by
  unfold st
  rw [show ((3 : Fin 8).val) = 3 from rfl, state_eq 3 (by decide), ← next_apply]
  rfl

theorem hash4 (V0 : Valuation τ sig (Elt Ideal)) (o : Fin 18432) (k : Fin 896) : res_main_v216 V0 (ValueIdx.ix2 o k) = Decode.hash (st V0 4 o k) := by
  unfold st
  rw [show ((4 : Fin 8).val) = 4 from rfl, state_eq 4 (by decide), ← next_apply]
  rfl

theorem hash5 (V0 : Valuation τ sig (Elt Ideal)) (o : Fin 18432) (k : Fin 896) : res_main_v264 V0 (ValueIdx.ix2 o k) = Decode.hash (st V0 5 o k) := by
  unfold st
  rw [show ((5 : Fin 8).val) = 5 from rfl, state_eq 5 (by decide), ← next_apply]
  rfl

theorem hash6 (V0 : Valuation τ sig (Elt Ideal)) (o : Fin 18432) (k : Fin 896) : res_main_v312 V0 (ValueIdx.ix2 o k) = Decode.hash (st V0 6 o k) := by
  unfold st
  rw [show ((6 : Fin 8).val) = 6 from rfl, state_eq 6 (by decide), ← next_apply]
  rfl

theorem hash7 (V0 : Valuation τ sig (Elt Ideal)) (o : Fin 18432) (k : Fin 896) : res_main_v360 V0 (ValueIdx.ix2 o k) = Decode.hash (st V0 7 o k) := by
  unfold st
  rw [show ((7 : Fin 8).val) = 7 from rfl, state_eq 7 (by decide), ← next_apply]
  rfl

/-! ## The sums -/

/-- One field's product. -/
theorem part_apply (V0 : Valuation τ sig (Elt Ideal)) (f : Fin 8) (a : S256x7168.Idx → ℝ)
    (ha : ∀ i, V0 (Proc.devRef .tc main_arg0) i = (a i : EReal)) (lo hi : IVec S18432x896 32)
    (hlo : ∀ o k, lo (ValueIdx.ix2 o k) = Decode.hash (st V0 f o k) &&& 65535#32) (hhi : ∀ o k, hi (ValueIdx.ix2 o k) = Decode.hash (st V0 f o k) >>> 16)
    (sl : S256x7168.SlicesBy ![0, f.val] ![1, 8] S256x896) (s : Fin 256) (o : Fin 18432) :
    Host.dotGeneral (F := Ideal) (φ₁ := .bf16) (φ₂ := .bf16) dot_S256x896_S18432x896_S256x18432_1_1_0_0_n_n none
        (Host.slice S256x896 ![0, f.val] ![1, 8] (V0 (Proc.devRef .tc main_arg0)) sl)
        (truncf (F := Ideal) .bf16 (addf (bitcastToFloat (F := Ideal) .f32 (widen lo)) (bitcastToFloat (F := Ideal) .f32 (widen hi))) bitsLt_bf16_f32)
        (ValueIdx.ix2 s o)
      = ((∑ k : Fin 896, a (ValueIdx.ix2 s (⟨8 * k.val + f.val, by omega⟩ : Fin 7168)) * wt (codes V0) o f k : ℝ) : EReal) := by
  have key : ∀ (X : FVec Ideal S256x896 .bf16) (Y : FVec Ideal S18432x896 .bf16),
      Host.dotGeneral (F := Ideal) (φ₁ := .bf16) (φ₂ := .bf16) dot_S256x896_S18432x896_S256x18432_1_1_0_0_n_n none X Y (ValueIdx.ix2 s o)
        = ∑ k : Fin 896, X (ValueIdx.ix2 s k) * Y (ValueIdx.ix2 o k) := fun X Y => by
    pointwise
    rfl
  refine (key _ _).trans ?_
  rw [coe_sum]
  refine Finset.sum_congr rfl fun k _ => ?_
  rw [EReal.coe_mul, ← ha]
  refine congrArg₂ (· * ·) ?_ ?_
  · refine congrArg (V0 (Proc.devRef .tc main_arg0)) (funext fun b => Fin.ext ?_)
    match b with
    | ⟨0, _⟩ => show 0 + 1 * s.val = s.val; omega
    | ⟨1, _⟩ => show f.val + 8 * k.val = 8 * k.val + f.val; omega
  · show (Ideal.ofBits .f32 (widen lo (ValueIdx.ix2 o k)) : EReal) + Ideal.ofBits .f32 (widen hi (ValueIdx.ix2 o k)) = _
    rw [widen_apply, widen_apply, hlo, hhi]
    exact rval_eq _

theorem sums_apply (V0 : Valuation τ sig (Elt Ideal)) (a : S256x7168.Idx → ℝ)
    (ha : ∀ i, V0 (Proc.devRef .tc main_arg0) i = (a i : EReal)) (s : Fin 256) (o : Fin 18432) :
    res_main_v393 V0 (ValueIdx.ix2 s o) = (lin a (codes V0) s o : EReal) := by
  unfold lin
  rw [Fin.sum_univ_eight]
  simp only [EReal.coe_add]
  unfold res_main_v393 res_main_v201
  exact congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (part_apply V0 0 a ha (res_main_v27 V0) (res_main_v29 V0) (fun o k => congrArg (· &&& 65535#32) (hash0 V0 o k)) (fun o k => congrArg (fun y : BitVec 32 => y >>> 16) (hash0 V0 o k)) slicesBy_S256x7168_S256x896_0s1_0s8 s o)
    (part_apply V0 1 a ha (res_main_v74 V0) (res_main_v76 V0) (fun o k => congrArg (· &&& 65535#32) (hash1 V0 o k)) (fun o k => congrArg (fun y : BitVec 32 => y >>> 16) (hash1 V0 o k)) slicesBy_S256x7168_S256x896_0s1_1s8 s o))
    (part_apply V0 2 a ha (res_main_v122 V0) (res_main_v124 V0) (fun o k => congrArg (· &&& 65535#32) (hash2 V0 o k)) (fun o k => congrArg (fun y : BitVec 32 => y >>> 16) (hash2 V0 o k)) slicesBy_S256x7168_S256x896_0s1_2s8 s o))
    (part_apply V0 3 a ha (res_main_v170 V0) (res_main_v172 V0) (fun o k => congrArg (· &&& 65535#32) (hash3 V0 o k)) (fun o k => congrArg (fun y : BitVec 32 => y >>> 16) (hash3 V0 o k)) slicesBy_S256x7168_S256x896_0s1_3s8 s o))
    (part_apply V0 4 a ha (res_main_v218 V0) (res_main_v220 V0) (fun o k => congrArg (· &&& 65535#32) (hash4 V0 o k)) (fun o k => congrArg (fun y : BitVec 32 => y >>> 16) (hash4 V0 o k)) slicesBy_S256x7168_S256x896_0s1_4s8 s o))
    (part_apply V0 5 a ha (res_main_v266 V0) (res_main_v268 V0) (fun o k => congrArg (· &&& 65535#32) (hash5 V0 o k)) (fun o k => congrArg (fun y : BitVec 32 => y >>> 16) (hash5 V0 o k)) slicesBy_S256x7168_S256x896_0s1_5s8 s o))
    (part_apply V0 6 a ha (res_main_v314 V0) (res_main_v316 V0) (fun o k => congrArg (· &&& 65535#32) (hash6 V0 o k)) (fun o k => congrArg (fun y : BitVec 32 => y >>> 16) (hash6 V0 o k)) slicesBy_S256x7168_S256x896_0s1_6s8 s o))
    (part_apply V0 7 a ha (res_main_v362 V0) (res_main_v364 V0) (fun o k => congrArg (· &&& 65535#32) (hash7 V0 o k)) (fun o k => congrArg (fun y : BitVec 32 => y >>> 16) (hash7 V0 o k)) slicesBy_S256x7168_S256x896_0s1_7s8 s o)

/-! ## The result -/

theorem tail_eq (Z : FVec Ideal S256x18432 .f32) (z : Fin 256 → Fin 18432 → ℝ) (hZ : ∀ s o, Z (ValueIdx.ix2 s o) = (z s o : EReal))
    (rs : FVec Ideal S18432 .f32) (r : S18432.Idx → ℝ) (hr : ∀ i, rs i = (r i : EReal)) (sv : FVec Ideal S18432 .f32) (i : S256x18432.Idx) :
    (truncf (F := Ideal) .bf16 (mulf (F := Ideal) (shapeCast _ (mulf (Host.dotGeneral dot_S256x18x1024_S1024x1024_S256x18x1024_2_1_01_0_n_n (some .fp32) (shapeCast _ (mulf Z (broadcastInDim S256x18432 ![0, 1] bcast_S1x18432_S256x18432_0_1 (broadcastInDim S1x18432 ![1] bcast_S18432_S1x18432_1 rs))) shapeCasts_S256x18432_S256x18x1024) (sitofp .f32 (subi (broadcastInDim S1024x1024 ![] bcast_S_S1024x1024 (constantI S_ 32 1#32)) (muli (broadcastInDim S1024x1024 ![] bcast_S_S1024x1024 (constantI S_ 32 2#32)) (andi (ctpop (andi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 1#32))))))) (broadcastInDim S256x18x1024 ![] bcast_S_S256x18x1024 (constant S_ .f32 0x3D000000#32))) shapeCasts_S256x18x1024_S256x18432) (broadcastInDim S256x18432 ![0, 1] bcast_S1x18432_S256x18432_0_1 (broadcastInDim S1x18432 ![1] bcast_S18432_S1x18432_1 sv))) bitsLt_bf16_f32 : S256x18432.Idx → EReal) i
      = (((∑ n : Fin 1024, z (i 0) ⟨1024 * ((i 1).val / 1024) + n.val, by have h : (i 1).val < 18432 := (i 1).isLt; omega⟩
      * r (ValueIdx.ix1 ⟨1024 * ((i 1).val / 1024) + n.val, by have h : (i 1).val < 18432 := (i 1).isLt; omega⟩) * had n.val ((i 1).val % 1024)) * (1 / 32) : ℝ) : EReal)
    * sv (ValueIdx.ix1 (i 1)) := by
  pointwise
  refine congrArg₂ (fun u v : EReal => u * v) ((congrArg₂ (fun u v : EReal => u * v) ?_ Hadamard.ofBits_scale).trans (EReal.coe_mul _ _).symm) rfl
  rw [coe_sum]
  refine Finset.sum_congr rfl fun n _ => ?_
  have e : (i 1).val / 1024 * 1024 + n.val = 1024 * ((i 1).val / 1024) + n.val := by omega
  rw [EReal.coe_mul, EReal.coe_mul, had_comm n.val]
  refine congrArg₂ (fun u v : EReal => u * v) (congrArg₂ (fun u v : EReal => u * v) ((congrArg Z ?_).trans (hZ _ _)) ((congrArg rs ?_).trans (hr _))) rfl
  · funext a; apply Fin.ext
    match a with
    | ⟨0, _⟩ => rfl
    | ⟨1, _⟩ => exact e
  · funext a; apply Fin.ext
    match a with
    | ⟨0, _⟩ => exact e

end Cert.LinearRefIdeal.Read

end
-- ==== Proof.LinearClaims.lean ====
/- The linear call's claims: the kernel's run at the ideal instance against the reference, at finite inputs and scales. -/
module

public import proofs.«01_k».proof.Defs
public import proofs.«01_k».proof.Proof.LinearValue
public import proofs.«01_k».proof.Proof.LinearRef
public import proofs.«01_k».proof.Proof.Gen.Pre_finite_activations

@[expose] public section

noncomputable section

namespace Cert.Proof.LinearClaims

open Idealize.ShloMosaic Idealize.ShloMosaic.TcCoe Idealize.ShloMosaic.StableHlo Idealize.SL.Sem Cert.Hadamard

instance : Cert.LinearIdeal.Facts := Cert.LinearIdeal.Gen.facts
instance : Cert.LinearRefIdeal.Facts := Cert.LinearRefIdeal.Gen.facts
instance : Cert.Pre_finite_activations.Facts := Cert.Pre_finite_activations.Gen.facts

/-- The reference runs, its arguments unchanged, every counter zero at the end. -/
theorem frame_ref : Cert.quiescent_LinearRefIdeal := fun m ρ _ =>
  (θ_run Cert.LinearRefIdeal.defs _ _).mono (fun r h => ⟨fun c => (h c).2, sem_eq_zero_of_no_sems (by decide) r.2⟩)
    (Cert.LinearRefIdeal.Value.run (F := Ideal) m ρ)

/-- The precondition, read: every input and every scale is a real. -/
theorem reals_of_pre (x : Cert.Pre_finite_activations.S256x7168.Idx → EReal) (w : Cert.Pre_finite_activations.S18432x896.Idx → BitVec 16)
    (rs sv : Cert.Pre_finite_activations.S18432.Idx → EReal)
    (h : (Cert.Pre_finite_activations.fn (F := Ideal) x w rs sv).1 = (fun _ => 1#1) ∧ (Cert.Pre_finite_activations.fn (F := Ideal) x w rs sv).2 = (fun _ => 1#1)) :
    (∀ i, x i = ((x i).toReal : EReal)) ∧ (∀ i, rs i = ((rs i).toReal : EReal)) :=
  ⟨fun i => real_of_abs_lt _ (congrFun h.1 i), fun i => real_of_abs_lt _ (congrFun h.2 i)⟩

/-- The reference's result, from contents whose inputs and scales are finite. -/
theorem ref_eq (V0 : Valuation Cert.LinearRefIdeal.τ Cert.LinearRefIdeal.sig (Elt Ideal)) (x : Cert.LinearRefIdeal.S256x7168.Idx → ℝ)
    (rs : Cert.LinearRefIdeal.S18432.Idx → ℝ) (hx : ∀ i, V0 (Proc.devRef .tc Cert.LinearRefIdeal.main_arg0) i = (x i : EReal))
    (hrs : ∀ i, V0 (Proc.devRef .tc Cert.LinearRefIdeal.main_arg2) i = (rs i : EReal)) :
    Cert.LinearRefIdeal.Value.val10 V0 (Proc.devRef .tc Cert.LinearRefIdeal.main_v405)
      = Cert.LinearSpec.linear x (V0 (Proc.devRef .tc Cert.LinearRefIdeal.main_arg1)) rs (V0 (Proc.devRef .tc Cert.LinearRefIdeal.main_arg3)) := by
  refine (Cert.LinearRefIdeal.Value.val10_main_v405 (F := Ideal) V0).trans (funext fun i => ?_)
  exact Cert.LinearRefIdeal.Read.tail_eq _ _ (Cert.LinearRefIdeal.Read.sums_apply V0 x hx) _ rs hrs _ i

/-- The kernel and the reference end with equal results at finite inputs and scales. -/
theorem algebraic : Cert.algebraic_LinearIdeal_LinearRefIdeal_pre_finite_activations := by
  intro m g m' g' hpre hagree
  refine ⟨fun c => Cert.LinearSpec.linear
    (fun i => EReal.toReal (m ((c : Thread Cert.LinearIdeal.nD Cert.LinearIdeal.τ).loc Cert.LinearIdeal.main_arg0) i))
    (m ((c : Thread Cert.LinearIdeal.nD Cert.LinearIdeal.τ).loc Cert.LinearIdeal.main_arg1))
    (fun i => EReal.toReal (m ((c : Thread Cert.LinearIdeal.nD Cert.LinearIdeal.τ).loc Cert.LinearIdeal.main_arg2) i))
    (m ((c : Thread Cert.LinearIdeal.nD Cert.LinearIdeal.τ).loc Cert.LinearIdeal.main_arg3)), ?_, ?_⟩
  · refine (θ_run Cert.LinearIdeal.defs _ _).mono (fun r h c => ⟨(h c).1.trans ?_, (h c).2⟩) (Cert.LinearIdeal.Run.run_named m g)
    obtain ⟨hx, hrs⟩ := reals_of_pre _ _ _ _ (hpre c)
    exact Cert.LinearIdeal.Value.final m c _ _ hx hrs
  · refine (θ_run Cert.LinearRefIdeal.defs _ _).mono (fun r h c => ⟨(h c).1.trans ?_, (h c).2⟩) (Cert.LinearRefIdeal.Value.run (F := Ideal) m' g')
    obtain ⟨hx, hrs⟩ := reals_of_pre _ _ _ _ (hpre c)
    obtain ⟨a0, a1, a2, a3⟩ := hagree c
    refine (Cert.LinearRefIdeal.Value.val10_main_v405 (F := Ideal) (launchContents m' c)).symm.trans ?_
    refine (ref_eq (launchContents m' c) _ _ (fun i => (congrFun a0 i).trans (hx i)) (fun i => (congrFun a2 i).trans (hrs i))).trans ?_
    exact congrArg₂ (fun w sv => Cert.LinearSpec.linear _ w _ sv) a1 a3

end Cert.Proof.LinearClaims

end
-- ==== Proof.lean ====
module

public import proofs.«01_k».proof.Defs
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RotateIdeal.Value
public import proofs.«01_k».proof.Proof.Gen.RotateRefIdeal.Run
public import proofs.«01_k».proof.Proof.Gen.LinearRefIdeal.Run
public import proofs.«01_k».proof.Proof.Gen.RotateRefIdeal
public import proofs.«01_k».proof.Proof.Gen.Linear
public import proofs.«01_k».proof.Proof.Gen.Linear.Skeleton
public import proofs.«01_k».proof.Proof.Gen.Linear.Loops
public import proofs.«01_k».proof.Proof.Gen.Linear.Launch
public import proofs.«01_k».proof.Proof.Gen.Linear.Points
public import proofs.«01_k».proof.Proof.Gen.Linear.Frame
public import proofs.«01_k».proof.Proof.Gen.LinearIdeal
public import proofs.«01_k».proof.Proof.Gen.LinearIdeal.Skeleton
public import proofs.«01_k».proof.Proof.Gen.LinearIdeal.Loops
public import proofs.«01_k».proof.Proof.Gen.LinearIdeal.Launch
public import proofs.«01_k».proof.Proof.Gen.LinearIdeal.Points
public import proofs.«01_k».proof.Proof.Gen.LinearIdeal.Frame
public import proofs.«01_k».proof.Proof.Gen.LinearRefIdeal
public import proofs.«01_k».proof.Proof.Gen.Pre_finite_inputs
public import proofs.«01_k».proof.Proof.Gen.Pre_finite_activations
public import proofs.«01_k».proof.Proof.RotateClaims
public import proofs.«01_k».proof.Proof.LinearFrame
public import proofs.«01_k».proof.Proof.LinearClaims
public import Idealize.ShloMosaic.Lib.Bf16Pair
public import Idealize.ShloMosaic.Adequacy
public import Idealize.ShloMosaic.Init

@[expose] public section

noncomputable section

namespace Cert.Proof

open Idealize.ShloMosaic Idealize.SL.Sem Cert.Rotate

theorem claim : Cert.Claim := ⟨Cert.Rotate.Gen.facts, Cert.RotateIdeal.Gen.facts, Cert.RotateRefIdeal.Gen.facts, Cert.Linear.Gen.facts,
  Cert.LinearIdeal.Gen.facts, Cert.LinearRefIdeal.Gen.facts, Cert.Pre_finite_inputs.Gen.facts, Cert.Pre_finite_activations.Gen.facts,
  fun m ρ _ => Cert.Rotate.Gen.frame m ρ,
  fun m ρ _ => Cert.RotateIdeal.Gen.frame m ρ,
  fun m ρ _ => Cert.RotateIdeal.Gen.frame m ρ,
  RotateClaims.frame_ref,
  fun m ρ _ => RotateClaims.frame_ref m ρ trivial,
  fun m ρ _ => Cert.Linear.Framed.frame m ρ,
  fun m ρ _ => Cert.LinearIdeal.Run.frame m ρ,
  fun m ρ _ => Cert.LinearIdeal.Run.frame m ρ,
  LinearClaims.frame_ref,
  fun m ρ _ => LinearClaims.frame_ref m ρ trivial,
  trivial,
  RotateClaims.algebraic,
  ⟨IdealRules.bf16_pair.packStatement _, IdealRules.bf16_pair.statement _ _⟩,
  LinearClaims.algebraic⟩

end Cert.Proof

end
